-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_varied [hPre_varied : Cert.Pre_varied.Facts] (m : (ℓ : Loc Cert.KernelIdeal.nD Cert.KernelIdeal.τ Cert.KernelIdeal.sig) → Buf (Elt Ideal) ℓ) : Prop :=
  ∀ c : Dev Cert.KernelIdeal.nD,
    (Cert.Pre_varied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_varied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_varied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_varied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_varied [hPre_varied : Cert.Pre_varied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_varied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_varied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_varied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_varied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_varied [hKernelIdeal : Cert.KernelIdeal.Facts] [hPre_varied : Cert.Pre_varied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_varied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_varied [hReferenceIdeal : Cert.ReferenceIdeal.Facts] [hPre_varied : Cert.Pre_varied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_varied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "inv49" .f32 0x3CA72F05#32 ((1 / 49 : ℝ) : EReal)
  ∧ IdealRules.named_const.Statement Cert.KernelIdeal.κ "inv48" .f32 0x3CAAAAAB#32 ((1 / 48 : ℝ) : EReal)

def algebraic_KernelIdeal_ReferenceIdeal_pre_varied [hKernelIdeal : Cert.KernelIdeal.Facts] [hReferenceIdeal : Cert.ReferenceIdeal.Facts] [hPre_varied : Cert.Pre_varied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_varied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_varied : Cert.Pre_varied.Facts),
    quiescent_Kernel (hKernel := hKernel)
    ∧ quiescent_KernelIdeal (hKernelIdeal := hKernelIdeal)
    ∧ quiescent_KernelIdeal_pre_varied (hKernelIdeal := hKernelIdeal) (hPre_varied := hPre_varied)
    ∧ quiescent_ReferenceIdeal (hReferenceIdeal := hReferenceIdeal)
    ∧ quiescent_ReferenceIdeal_pre_varied (hReferenceIdeal := hReferenceIdeal) (hPre_varied := hPre_varied)
    ∧ preserves_Kernel_KernelIdeal
    ∧ algebraic_KernelIdeal_ReferenceIdeal_pre_varied (hKernelIdeal := hKernelIdeal) (hReferenceIdeal := hReferenceIdeal) (hPre_varied := hPre_varied)
-- ==== Pre_varied.lean ====
abbrev S8x256x128x128 : Shape := ⟨4, ![8, 256, 128, 128]⟩
abbrev S8x1x128x128 : Shape := ⟨4, ![8, 1, 128, 128]⟩
abbrev S256x256 : Shape := ⟨2, ![256, 256]⟩
abbrev S256 : Shape := ⟨1, ![256]⟩
abbrev S_ : Shape := ⟨0, ![]⟩
abbrev S8x128x128x256 : Shape := ⟨4, ![8, 128, 128, 256]⟩
abbrev S1x256x1x1 : Shape := ⟨4, ![1, 256, 1, 1]⟩
abbrev S8x128x128 : Shape := ⟨3, ![8, 128, 128]⟩
abbrev S8x16384 : Shape := ⟨2, ![8, 16384]⟩
abbrev S8 : Shape := ⟨1, ![8]⟩

class Facts : Prop where
  bcast_S_S_ : S_.BroadcastsInDim S_ (![] : Fin 0 → Fin S_.rank)
  reduceWindows_S8x256x128x128_S8x256x128x128_w1s1p0_0_w1s1p0_0_w7s1p3_3_w7s1p3_3 : S8x256x128x128.ReduceWindows (![1, 1, 7, 7] : Fin 4 → Nat) ![1, 1, 1, 1] ![0, 0, 3, 3] ![0, 0, 3, 3] S8x256x128x128
  h_S_ : 0 < S_.numel
  bcast_S_S8x256x128x128 : S_.BroadcastsInDim S8x256x128x128 (![] : Fin 0 → Fin S8x256x128x128.rank)
  transposes_S8x128x128x256_S8x256x128x128_0_3_1_2 : S8x128x128x256.Transposes [0, 3, 1, 2] S8x256x128x128
  bcast_S256_S1x256x1x1_1 : S256.BroadcastsInDim S1x256x1x1 (![1] : Fin 1 → Fin S1x256x1x1.rank)
  bcast_S1x256x1x1_S8x256x128x128_0_1_2_3 : S1x256x1x1.BroadcastsInDim S8x256x128x128 (![0, 1, 2, 3] : Fin 4 → Fin S8x256x128x128.rank)
  reducesTo_S8x256x128x128_S8x128x128_d1 : S8x256x128x128.ReducesTo [1] S8x128x128
  shapeCasts_S8x128x128_S8x16384 : S8x128x128.ShapeCasts S8x16384
  bcast_S_S256x256 : S_.BroadcastsInDim S256x256 (![] : Fin 0 → Fin S256x256.rank)
  bcast_S_S256 : S_.BroadcastsInDim S256 (![] : Fin 0 → Fin S256.rank)
  reducesTo_S8x16384_S8_d1 : S8x16384.ReducesTo [1] S8
  dot_S8x256x128x128_S256x256_S8x128x128x256_1_1_023_0_n_n_wf : DotDims.WF S8x256x128x128 S256x256 S8x128x128x256 [1] [1] [0, 2, 3] [0] [] []

variable [Facts]

def dot_S8x256x128x128_S256x256_S8x128x128x256_1_1_023_0_n_n : DotDims S8x256x128x128 S256x256 S8x128x128x256 where
  lhsContracting := [1]
  rhsContracting := [1]
  lhsNonContracting := [0, 2, 3]
  rhsNonContracting := [0]
  lhsBatch := []
  rhsBatch := []
  wf := dot_S8x256x128x128_S256x256_S8x128x128x256_1_1_023_0_n_n_wf
def fn_part3 {F : FTy → Type} [FloatOps F] (main_arg1 : FVec F S8x256x128x128 .f32) (main_arg9 : FVec F S256x256 .f32) (main_arg10 : FVec F S256 .f32) (main_v24 : FVec F S8x256x128x128 .f32) (main_v49 : FVec F S8x256x128x128 .f32) (main_v52 : FVec F S8x128x128 .f32) (main_v55 : FVec F S8x128x128 .f32) : IVec S8x256x128x128 1 × IVec S256x256 1 × IVec S256 1 × IVec S8 1 :=
  let main_v56 : FVec F S8x256x128x128 .f32 := mulf main_v24 main_v49
  let main_cst_15 : FVec F S_ .f32 := constant S_ .f32 0x00000000#32
  let main_v57 : FVec F S8x128x128 .f32 := (fun x v => Host.reduceAdd x v reducesTo_S8x256x128x128_S8x128x128_d1 h_S_) main_v56 main_cst_15
  let main_v58 : FVec F S8x128x128 .f32 := mulf main_v52 main_v55
  let main_v59 : FVec F S8x128x128 .f32 := Host.divf main_v57 main_v58
  let main_v60 : FVec F S8x16384 .f32 := shapeCast S8x16384 main_v59 shapeCasts_S8x128x128_S8x16384
  let main_v61 : FVec F S8x256x128x128 .f32 := Host.absf main_arg1
  let main_cst_16 : FVec F S_ .f32 := constant S_ .f32 0x7F800000#32
  let main_v62 : FVec F S8x256x128x128 .f32 := broadcastInDim S8x256x128x128 ![] bcast_S_S8x256x128x128 main_cst_16
  let main_v63 : IVec S8x256x128x128 1 := cmpf .olt main_v61 main_v62
  let main_v64 : FVec F S256x256 .f32 := Host.absf main_arg9
  let main_cst_17 : FVec F S_ .f32 := constant S_ .f32 0x7F800000#32
  let main_v65 : FVec F S256x256 .f32 := broadcastInDim S256x256 ![] bcast_S_S256x256 main_cst_17
  let main_v66 : IVec S256x256 1 := cmpf .olt main_v64 main_v65
  let main_v67 : FVec F S256 .f32 := Host.absf main_arg10
  let main_cst_18 : FVec F S_ .f32 := constant S_ .f32 0x7F800000#32
  let main_v68 : FVec F S256 .f32 := broadcastInDim S256 ![] bcast_S_S256 main_cst_18
  let main_v69 : IVec S256 1 := cmpf .olt main_v67 main_v68
  let main_cst_19 : FVec F S_ .f32 := constant S_ .f32 0x7F800000#32
  let main_v70 : FVec F S8 .f32 := (fun x v => Host.reduce FloatOps.minimumf x v reducesTo_S8x16384_S8_d1 h_S_) main_v60 main_cst_19
  let main_cst_20 : FVec F S_ .f32 := constant S_ .f32 0xFF800000#32
  let main_v71 : FVec F S8 .f32 := (fun x v => Host.reduce FloatOps.maximumf x v reducesTo_S8x16384_S8_d1 h_S_) main_v60 main_cst_20
  let main_v72 : IVec S8 1 := cmpf .olt main_v70 main_v71
  (main_v63, main_v66, main_v69, main_v72)

def fn_part2 {F : FTy → Type} [FloatOps F] (main_arg1 : FVec F S8x256x128x128 .f32) (main_arg7 : FVec F S256x256 .f32) (main_arg8 : FVec F S256 .f32) (main_arg9 : FVec F S256x256 .f32) (main_arg10 : FVec F S256 .f32) (main_v24 : FVec F S8x256x128x128 .f32) (main_v31 : FVec F S8x256x128x128 .f32) (main_v35 : FVec F S8x256x128x128 .f32) (main_cst_10 : FVec F S_ .f32) : IVec S8x256x128x128 1 × IVec S256x256 1 × IVec S256 1 × IVec S8 1 :=
  let main_v36 : FVec F S8x256x128x128 .f32 := broadcastInDim S8x256x128x128 ![] bcast_S_S8x256x128x128 main_cst_10
  let main_v37 : FVec F S8x256x128x128 .f32 := Host.divf main_v35 main_v36
  let main_cst_11 : FVec F S_ .f32 := constant S_ .f32 0x00000000#32
  let main_v38 : FVec F S8x256x128x128 .f32 := broadcastInDim S8x256x128x128 ![] bcast_S_S8x256x128x128 main_cst_11
  let main_v39 : FVec F S8x256x128x128 .f32 := maximumf main_v37 main_v38
  let main_v40 : FVec F S8x256x128x128 .f32 := subf main_arg1 main_v31
  let main_v41 : FVec F S8x256x128x128 .f32 := Host.sqrt main_v39
  let main_cst_12 : FVec F S_ .f32 := constant S_ .f32 0x322BCC77#32
  let main_v42 : FVec F S8x256x128x128 .f32 := broadcastInDim S8x256x128x128 ![] bcast_S_S8x256x128x128 main_cst_12
  let main_v43 : FVec F S8x256x128x128 .f32 := addf main_v41 main_v42
  let main_v44 : FVec F S8x256x128x128 .f32 := Host.divf main_v40 main_v43
  let main_v45 : FVec F S8x128x128x256 .f32 := (fun l r => Host.dotGeneral dot_S8x256x128x128_S256x256_S8x128x128x256_1_1_023_0_n_n none l r) main_v44 main_arg7
  let main_v46 : FVec F S8x256x128x128 .f32 := (transpose S8x256x128x128 [0, 3, 1, 2] · transposes_S8x128x128x256_S8x256x128x128_0_3_1_2) main_v45
  let main_v47 : FVec F S1x256x1x1 .f32 := broadcastInDim S1x256x1x1 ![1] bcast_S256_S1x256x1x1_1 main_arg8
  let main_v48 : FVec F S8x256x128x128 .f32 := broadcastInDim S8x256x128x128 ![0, 1, 2, 3] bcast_S1x256x1x1_S8x256x128x128_0_1_2_3 main_v47
  let main_v49 : FVec F S8x256x128x128 .f32 := addf main_v46 main_v48
  let main_v50 : FVec F S8x256x128x128 .f32 := mulf main_v24 main_v24
  let main_cst_13 : FVec F S_ .f32 := constant S_ .f32 0x00000000#32
  let main_v51 : FVec F S8x128x128 .f32 := (fun x v => Host.reduceAdd x v reducesTo_S8x256x128x128_S8x128x128_d1 h_S_) main_v50 main_cst_13
  let main_v52 : FVec F S8x128x128 .f32 := Host.sqrt main_v51
  let main_v53 : FVec F S8x256x128x128 .f32 := mulf main_v49 main_v49
  let main_cst_14 : FVec F S_ .f32 := constant S_ .f32 0x00000000#32
  let main_v54 : FVec F S8x128x128 .f32 := (fun x v => Host.reduceAdd x v reducesTo_S8x256x128x128_S8x128x128_d1 h_S_) main_v53 main_cst_14
  let main_v55 : FVec F S8x128x128 .f32 := Host.sqrt main_v54
  fn_part3 (F := F) main_arg1 main_arg9 main_arg10 main_v24 main_v49 main_v52 main_v55

def fn_part1 {F : FTy → Type} [FloatOps F] (main_arg1 : FVec F S8x256x128x128 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_v15 : FVec F S8x256x128x128 .f32) (main_v16 : FVec F S8x256x128x128 .f32) (main_cst_5 : FVec F S_ .f32) : IVec S8x256x128x128 1 × IVec S256x256 1 × IVec S256 1 × IVec S8 1 :=
  let main_v17 : FVec F S8x256x128x128 .f32 := broadcastInDim S8x256x128x128 ![] bcast_S_S8x256x128x128 main_cst_5
  let main_v18 : FVec F S8x256x128x128 .f32 := addf main_v16 main_v17
  let main_v19 : FVec F S8x256x128x128 .f32 := Host.divf main_v15 main_v18
  let main_v20 : FVec F S8x128x128x256 .f32 := (fun l r => Host.dotGeneral dot_S8x256x128x128_S256x256_S8x128x128x256_1_1_023_0_n_n none l r) main_v19 main_arg5
  let main_v21 : FVec F S8x256x128x128 .f32 := (transpose S8x256x128x128 [0, 3, 1, 2] · transposes_S8x128x128x256_S8x256x128x128_0_3_1_2) main_v20
  let main_v22 : FVec F S1x256x1x1 .f32 := broadcastInDim S1x256x1x1 ![1] bcast_S256_S1x256x1x1_1 main_arg6
  let main_v23 : FVec F S8x256x128x128 .f32 := broadcastInDim S8x256x128x128 ![0, 1, 2, 3] bcast_S1x256x1x1_S8x256x128x128_0_1_2_3 main_v22
  let main_v24 : FVec F S8x256x128x128 .f32 := addf main_v21 main_v23
  let main_cst_6 : FVec F S_ .f32 := constant S_ .f32 0x00000000#32
  let main_v25 : FVec F S_ .f32 := broadcastInDim S_ ![] bcast_S_S_ main_cst_6
  let main_v26 : FVec F S8x256x128x128 .f32 := (fun x v => Host.reduceWindowAdd ![1, 1, 7, 7] ![1, 1, 1, 1] ![0, 0, 3, 3] ![0, 0, 3, 3] x v reduceWindows_S8x256x128x128_S8x256x128x128_w1s1p0_0_w1s1p0_0_w7s1p3_3_w7s1p3_3 h_S_) main_arg1 main_v25
  let main_v27 : FVec F S8x256x128x128 .f32 := mulf main_arg1 main_arg1
  let main_cst_7 : FVec F S_ .f32 := constant S_ .f32 0x00000000#32
  let main_v28 : FVec F S_ .f32 := broadcastInDim S_ ![] bcast_S_S_ main_cst_7
  let main_v29 : FVec F S8x256x128x128 .f32 := (fun x v => Host.reduceWindowAdd ![1, 1, 7, 7] ![1, 1, 1, 1] ![0, 0, 3, 3] ![0, 0, 3, 3] x v reduceWindows_S8x256x128x128_S8x256x128x128_w1s1p0_0_w1s1p0_0_w7s1p3_3_w7s1p3_3 h_S_) main_v27 main_v28
  let main_cst_8 : FVec F S_ .f32 := constant S_ .f32 0x42440000#32
  let main_v30 : FVec F S8x256x128x128 .f32 := broadcastInDim S8x256x128x128 ![] bcast_S_S8x256x128x128 main_cst_8
  let main_v31 : FVec F S8x256x128x128 .f32 := Host.divf main_v26 main_v30
  let main_cst_9 : FVec F S_ .f32 := constant S_ .f32 0x42440000#32
  let main_v32 : FVec F S8x256x128x128 .f32 := broadcastInDim S8x256x128x128 ![] bcast_S_S8x256x128x128 main_cst_9
  let main_v33 : FVec F S8x256x128x128 .f32 := mulf main_v32 main_v31
  let main_v34 : FVec F S8x256x128x128 .f32 := mulf main_v33 main_v31
  let main_v35 : FVec F S8x256x128x128 .f32 := subf main_v29 main_v34
  let main_cst_10 : FVec F S_ .f32 := constant S_ .f32 0x42400000#32
  fn_part2 (F := F) main_arg1 main_arg7 main_arg8 main_arg9 main_arg10 main_v24 main_v31 main_v35 main_cst_10

def fn {F : FTy → Type} [FloatOps F] (main_arg0 : FVec F S8x256x128x128 .f32) (main_arg1 : FVec F S8x256x128x128 .f32) (main_arg2 : FVec F S8x1x128x128 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) : IVec S8x256x128x128 1 × IVec S256x256 1 × IVec S256 1 × IVec S8 1 :=
  let main_cst : FVec F S_ .f32 := constant S_ .f32 0x00000000#32
  let main_v0 : FVec F S_ .f32 := broadcastInDim S_ ![] bcast_S_S_ main_cst
  let main_v1 : FVec F S8x256x128x128 .f32 := (fun x v => Host.reduceWindowAdd ![1, 1, 7, 7] ![1, 1, 1, 1] ![0, 0, 3, 3] ![0, 0, 3, 3] x v reduceWindows_S8x256x128x128_S8x256x128x128_w1s1p0_0_w1s1p0_0_w7s1p3_3_w7s1p3_3 h_S_) main_arg0 main_v0
  let main_v2 : FVec F S8x256x128x128 .f32 := mulf main_arg0 main_arg0
  let main_cst_0 : FVec F S_ .f32 := constant S_ .f32 0x00000000#32
  let main_v3 : FVec F S_ .f32 := broadcastInDim S_ ![] bcast_S_S_ main_cst_0
  let main_v4 : FVec F S8x256x128x128 .f32 := (fun x v => Host.reduceWindowAdd ![1, 1, 7, 7] ![1, 1, 1, 1] ![0, 0, 3, 3] ![0, 0, 3, 3] x v reduceWindows_S8x256x128x128_S8x256x128x128_w1s1p0_0_w1s1p0_0_w7s1p3_3_w7s1p3_3 h_S_) main_v2 main_v3
  let main_cst_1 : FVec F S_ .f32 := constant S_ .f32 0x42440000#32
  let main_v5 : FVec F S8x256x128x128 .f32 := broadcastInDim S8x256x128x128 ![] bcast_S_S8x256x128x128 main_cst_1
  let main_v6 : FVec F S8x256x128x128 .f32 := Host.divf main_v1 main_v5
  let main_cst_2 : FVec F S_ .f32 := constant S_ .f32 0x42440000#32
  let main_v7 : FVec F S8x256x128x128 .f32 := broadcastInDim S8x256x128x128 ![] bcast_S_S8x256x128x128 main_cst_2
  let main_v8 : FVec F S8x256x128x128 .f32 := mulf main_v7 main_v6
  let main_v9 : FVec F S8x256x128x128 .f32 := mulf main_v8 main_v6
  let main_v10 : FVec F S8x256x128x128 .f32 := subf main_v4 main_v9
  let main_cst_3 : FVec F S_ .f32 := constant S_ .f32 0x42400000#32
  let main_v11 : FVec F S8x256x128x128 .f32 := broadcastInDim S8x256x128x128 ![] bcast_S_S8x256x128x128 main_cst_3
  let main_v12 : FVec F S8x256x128x128 .f32 := Host.divf main_v10 main_v11
  let main_cst_4 : FVec F S_ .f32 := constant S_ .f32 0x00000000#32
  let main_v13 : FVec F S8x256x128x128 .f32 := broadcastInDim S8x256x128x128 ![] bcast_S_S8x256x128x128 main_cst_4
  let main_v14 : FVec F S8x256x128x128 .f32 := maximumf main_v12 main_v13
  let main_v15 : FVec F S8x256x128x128 .f32 := subf main_arg0 main_v6
  let main_v16 : FVec F S8x256x128x128 .f32 := Host.sqrt main_v14
  let main_cst_5 : FVec F S_ .f32 := constant S_ .f32 0x322BCC77#32
  fn_part1 (F := F) main_arg1 main_arg5 main_arg6 main_arg7 main_arg8 main_arg9 main_arg10 main_v15 main_v16 main_cst_5
-- ==== Kernel.lean ====
abbrev S8x256x128x128 : Shape := ⟨4, ![8, 256, 128, 128]⟩
abbrev S8x1x128x128 : Shape := ⟨4, ![8, 1, 128, 128]⟩
abbrev S256x256 : Shape := ⟨2, ![256, 256]⟩
abbrev S256 : Shape := ⟨1, ![256]⟩
abbrev S8x256x16384 : Shape := ⟨3, ![8, 256, 16384]⟩
abbrev S256x1 : Shape := ⟨2, ![256, 1]⟩
abbrev S8x1x16384 : Shape := ⟨3, ![8, 1, 16384]⟩
abbrev S8x1x128 : Shape := ⟨3, ![8, 1, 128]⟩
abbrev S1x256x2048 : Shape := ⟨3, ![1, 256, 2048]⟩
abbrev S1x256x512 : Shape := ⟨3, ![1, 256, 512]⟩
abbrev S1x1x2048 : Shape := ⟨3, ![1, 1, 2048]⟩
abbrev S1x1x128 : Shape := ⟨3, ![1, 1, 128]⟩
abbrev S1x2048 : Shape := ⟨2, ![1, 2048]⟩
abbrev S256x512 : Shape := ⟨2, ![256, 512]⟩
abbrev S256x2048 : Shape := ⟨2, ![256, 2048]⟩
abbrev S256x3072 : Shape := ⟨2, ![256, 3072]⟩
abbrev S256x2816 : Shape := ⟨2, ![256, 2816]⟩
abbrev S256x2560 : Shape := ⟨2, ![256, 2560]⟩
abbrev S256x3 : Shape := ⟨2, ![256, 3]⟩
abbrev S256x2047 : Shape := ⟨2, ![256, 2047]⟩
abbrev S256x2 : Shape := ⟨2, ![256, 2]⟩
abbrev S256x2046 : Shape := ⟨2, ![256, 2046]⟩
abbrev S256x2045 : Shape := ⟨2, ![256, 2045]⟩
abbrev S2048 : Shape := ⟨1, ![2048]⟩
abbrev S1 : Shape := ⟨1, ![1]⟩
abbrev S1x1x1 : Shape := ⟨3, ![1, 1, 1]⟩
abbrev S8x1x1 : Shape := ⟨3, ![8, 1, 1]⟩
abbrev S8 : Shape := ⟨1, ![8]⟩
abbrev S_ : Shape := ⟨0, ![]⟩

abbrev nBuf : Space → Nat
  | .hbm => 32
  | .vmem => 38
  | .smem => 2
  | _ => 0

abbrev bufTy : (tb : Table) → Fin (tcTables nBuf tb) → BufTy
  | .hbm, ⟨0, _⟩ => ⟨S8x256x128x128, .f32⟩
  | .hbm, ⟨1, _⟩ => ⟨S8x256x128x128, .f32⟩
  | .hbm, ⟨2, _⟩ => ⟨S8x1x128x128, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S8x256x16384, .f32⟩
  | .hbm, ⟨12, _⟩ => ⟨S8x256x16384, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S8x1x16384, .f32⟩
  | .hbm, ⟨18, _⟩ => ⟨S8x1x128, .f32⟩
  | .hbm, ⟨19, _⟩ => ⟨S8x1x128, .f32⟩
  | .hbm, ⟨20, _⟩ => ⟨S8x256x16384, .bf16⟩
  | .hbm, ⟨21, _⟩ => ⟨S8x256x16384, .bf16⟩
  | .hbm, ⟨22, _⟩ => ⟨S8x1x1, .f32⟩
  | .hbm, ⟨23, _⟩ => ⟨S8, .f32⟩
  | .hbm, ⟨24, _⟩ => ⟨S8x1x1, .f32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S8x256x16384, .f32⟩
  | .hbm, ⟨31, _⟩ => ⟨S8x256x128x128, .f32⟩
  | .local _ .vmem, ⟨0, _⟩ => ⟨S1x256x2048, .f32⟩
  | .local _ .vmem, ⟨1, _⟩ => ⟨S1x256x2048, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x2048, .f32⟩
  | .local _ .vmem, ⟨7, _⟩ => ⟨S1x256x2048, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S256x256, .f32⟩
  | .local _ .vmem, ⟨13, _⟩ => ⟨S256x1, .f32⟩
  | .local _ .vmem, ⟨14, _⟩ => ⟨S256x256, .f32⟩
  | .local _ .vmem, ⟨15, _⟩ => ⟨S256x1, .f32⟩
  | .local _ .vmem, ⟨16, _⟩ => ⟨S256x256, .f32⟩
  | .local _ .vmem, ⟨17, _⟩ => ⟨S256x1, .f32⟩
  | .local _ .vmem, ⟨18, _⟩ => ⟨S256x256, .f32⟩
  | .local _ .vmem, ⟨19, _⟩ => ⟨S256x1, .f32⟩
  | .local _ .vmem, ⟨20, _⟩ => ⟨S1x1x2048, .f32⟩
  | .local _ .vmem, ⟨21, _⟩ => ⟨S1x1x2048, .f32⟩
  | .local _ .vmem, ⟨22, _⟩ => ⟨S1x1x128, .f32⟩
  | .local _ .vmem, ⟨23, _⟩ => ⟨S1x1x128, .f32⟩
  | .local _ .vmem, ⟨24, _⟩ => ⟨S1x1x128, .f32⟩
  | .local _ .vmem, ⟨25, _⟩ => ⟨S1x1x128, .f32⟩
  | .local _ .vmem, ⟨26, _⟩ => ⟨S1x256x2048, .bf16⟩
  | .local _ .vmem, ⟨27, _⟩ => ⟨S1x256x2048, .bf16⟩
  | .local _ .vmem, ⟨28, _⟩ => ⟨S1x256x2048, .bf16⟩
  | .local _ .vmem, ⟨29, _⟩ => ⟨S1x256x2048, .bf16⟩
  | .local _ .vmem, ⟨30, _⟩ => ⟨S1x1x2048, .f32⟩
  | .local _ .vmem, ⟨31, _⟩ => ⟨S1x1x2048, .f32⟩
  | .local _ .vmem, ⟨32, _⟩ => ⟨S1x256x2048, .bf16⟩
  | .local _ .vmem, ⟨33, _⟩ => ⟨S1x256x2048, .bf16⟩
  | .local _ .vmem, ⟨34, _⟩ => ⟨S1x256x2048, .bf16⟩
  | .local _ .vmem, ⟨35, _⟩ => ⟨S1x256x2048, .bf16⟩
  | .local _ .vmem, ⟨36, _⟩ => ⟨S1x256x2048, .f32⟩
  | .local _ .vmem, ⟨37, _⟩ => ⟨S1x256x2048, .f32⟩
  | .local _ .smem, ⟨0, _⟩ => ⟨S8, .f32⟩
  | .local _ .smem, ⟨1, _⟩ => ⟨S8, .f32⟩
  | _, _ => ⟨S8x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev main_v6_4 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc1_stg0_0 : Ref sig .tc := ⟨.vmem, 30, rfl⟩
abbrev cc1_stg0_1 : Ref sig .tc := ⟨.vmem, 31, rfl⟩
abbrev cc1_stg1_0 : Ref sig .tc := ⟨.vmem, 32, rfl⟩
abbrev cc1_stg1_1 : Ref sig .tc := ⟨.vmem, 33, rfl⟩
abbrev cc1_stg2_0 : Ref sig .tc := ⟨.vmem, 34, rfl⟩
abbrev cc1_stg2_1 : Ref sig .tc := ⟨.vmem, 35, rfl⟩
abbrev cc1_stg5_0 : Ref sig .tc := ⟨.vmem, 36, rfl⟩
abbrev cc1_stg5_1 : Ref sig .tc := ⟨.vmem, 37, rfl⟩
abbrev cc1_stg3_0 : Ref sig .tc := ⟨.smem, 0, rfl⟩
abbrev cc1_stg4_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc1_sem0_0 : DmaSem sig := 30
abbrev cc1_sem0_1 : DmaSem sig := 31
abbrev cc1_sem1_0 : DmaSem sig := 32
abbrev cc1_sem1_1 : DmaSem sig := 33
abbrev cc1_sem2_0 : DmaSem sig := 34
abbrev cc1_sem2_1 : DmaSem sig := 35
abbrev cc1_sem3_0 : DmaSem sig := 36
abbrev cc1_sem4_0 : DmaSem sig := 37
abbrev cc1_sem5_0 : DmaSem sig := 38
abbrev cc1_sem5_1 : DmaSem sig := 39

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32_65 : BitVec 32 := 0#32
  let v315 : BitVec 1 := Scalar.cmpi .eq arg1 c0_i32_65
  let v316 : BitVec 32 := Scalar.extui v315
  let c0_i32_66 : BitVec 32 := 0#32
  let v317 : BitVec 1 := Scalar.cmpi .ne v316 c0_i32_66
  v317

def k0_cond2 (i : grid0.Coords) : BitVec 1 :=
  let arg1 : BitVec 32 := BitVec.ofNat 32 (i 1).val
  let c0_i32_67 : BitVec 32 := 0#32
  let v318 : BitVec 1 := Scalar.cmpi .ne arg1 c0_i32_67
  let v319 : BitVec 32 := Scalar.extui v318
  let c0_i32_68 : BitVec 32 := 0#32
  let v320 : BitVec 1 := Scalar.cmpi .ne v319 c0_i32_68
  v320

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, c0_i32_0.toNat, v2.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c4_i32_0 : BitVec 32 := 4#32
  let v1 : BitVec 32 := Scalar.addi v0 c4_i32_0
  let c31_i32 : BitVec 32 := 31#32
  let v2 : BitVec 32 := Scalar.minsi v1 c31_i32
  let c0_i32 : BitVec 32 := 0#32
  let c0_i32_1 : BitVec 32 := 0#32
  ![arg0.toNat, c0_i32.toNat, v2.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, c0_i32_0.toNat, v2.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c4_i32_0 : BitVec 32 := 4#32
  let v1 : BitVec 32 := Scalar.addi v0 c4_i32_0
  let c31_i32 : BitVec 32 := 31#32
  let v2 : BitVec 32 := Scalar.minsi v1 c31_i32
  let c0_i32 : BitVec 32 := 0#32
  let c0_i32_1 : BitVec 32 := 0#32
  ![arg0.toNat, c0_i32.toNat, v2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x1x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x256x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev grid1 : Pipeline.Grid := ⟨2, ![8, 8], ![false, false]⟩

def k1_off1 (i : grid1.Coords) : Fin 1 → Nat :=
  let arg0 : BitVec 32 := BitVec.ofNat 32 (i 0).val
  let v2 : Index := Scalar.indexCast arg0
  ![v2.toNat]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x1x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .smem S8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .smem S8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== KernelIdeal.lean ====
variable {F : FTy → Type} [FloatOps F] [Named F]
def κ : String → Option EReal := fun
  | "inv48" => some ((1 / 48 : ℝ) : EReal)
  | "inv49" => some ((1 / 49 : ℝ) : EReal)
  | _ => none
-- ==== ReferenceIdeal.lean ====
abbrev S8x256x128x128 : Shape := ⟨4, ![8, 256, 128, 128]⟩
abbrev S8x1x128x128 : Shape := ⟨4, ![8, 1, 128, 128]⟩
abbrev S256x256 : Shape := ⟨2, ![256, 256]⟩
abbrev S256 : Shape := ⟨1, ![256]⟩
abbrev S_ : Shape := ⟨0, ![]⟩
abbrev S8x128x128x256 : Shape := ⟨4, ![8, 128, 128, 256]⟩
abbrev S1x256x1x1 : Shape := ⟨4, ![1, 256, 1, 1]⟩
abbrev S8x128x128 : Shape := ⟨3, ![8, 128, 128]⟩
abbrev S8x16384 : Shape := ⟨2, ![8, 16384]⟩
abbrev S8 : Shape := ⟨1, ![8]⟩
abbrev S8x1 : Shape := ⟨2, ![8, 1]⟩

abbrev nBuf : Space → Nat
  | .hbm => 170
  | .vmem => 0
  | .smem => 0
  | _ => 0

abbrev hbmTy0_0 (i : Nat) : BufTy := match i % 128 with
  | 0 => ⟨S8x256x128x128, .f32⟩
  | 1 => ⟨S8x256x128x128, .f32⟩
  | 2 => ⟨S8x1x128x128, .f32⟩
  | 3 => ⟨S256x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S_, .f32⟩
  | 12 => ⟨S_, .f32⟩
  | 13 => ⟨S8x256x128x128, .f32⟩
  | 14 => ⟨S8x256x128x128, .f32⟩
  | 15 => ⟨S_, .f32⟩
  | 16 => ⟨S_, .f32⟩
  | 17 => ⟨S8x256x128x128, .f32⟩
  | 18 => ⟨S_, .f32⟩
  | 19 => ⟨S8x256x128x128, .f32⟩
  | 20 => ⟨S8x256x128x128, .f32⟩
  | 21 => ⟨S_, .f32⟩
  | 22 => ⟨S8x256x128x128, .f32⟩
  | 23 => ⟨S8x256x128x128, .f32⟩
  | 24 => ⟨S8x256x128x128, .f32⟩
  | 25 => ⟨S8x256x128x128, .f32⟩
  | 26 => ⟨S_, .f32⟩
  | 27 => ⟨S8x256x128x128, .f32⟩
  | 28 => ⟨S8x256x128x128, .f32⟩
  | 29 => ⟨S_, .f32⟩
  | 30 => ⟨S8x256x128x128, .f32⟩
  | 31 => ⟨S8x256x128x128, .f32⟩
  | 32 => ⟨S8x256x128x128, .f32⟩
  | 33 => ⟨S8x256x128x128, .f32⟩
  | 34 => ⟨S_, .f32⟩
  | 35 => ⟨S8x256x128x128, .f32⟩
  | 36 => ⟨S8x256x128x128, .f32⟩
  | 37 => ⟨S8x256x128x128, .f32⟩
  | 38 => ⟨S_, .f32⟩
  | 39 => ⟨S_, .f32⟩
  | 40 => ⟨S8x256x128x128, .f32⟩
  | 41 => ⟨S8x256x128x128, .f32⟩
  | 42 => ⟨S_, .f32⟩
  | 43 => ⟨S_, .f32⟩
  | 44 => ⟨S8x256x128x128, .f32⟩
  | 45 => ⟨S_, .f32⟩
  | 46 => ⟨S8x256x128x128, .f32⟩
  | 47 => ⟨S8x256x128x128, .f32⟩
  | 48 => ⟨S_, .f32⟩
  | 49 => ⟨S8x256x128x128, .f32⟩
  | 50 => ⟨S8x256x128x128, .f32⟩
  | 51 => ⟨S8x256x128x128, .f32⟩
  | 52 => ⟨S8x256x128x128, .f32⟩
  | 53 => ⟨S_, .f32⟩
  | 54 => ⟨S8x256x128x128, .f32⟩
  | 55 => ⟨S8x256x128x128, .f32⟩
  | 56 => ⟨S_, .f32⟩
  | 57 => ⟨S8x256x128x128, .f32⟩
  | 58 => ⟨S8x256x128x128, .f32⟩
  | 59 => ⟨S8x256x128x128, .f32⟩
  | 60 => ⟨S8x256x128x128, .f32⟩
  | 61 => ⟨S8x256x128x128, .f32⟩
  | 62 => ⟨S8x128x128x256, .f32⟩
  | 63 => ⟨S8x256x128x128, .f32⟩
  | 64 => ⟨S1x256x1x1, .f32⟩
  | 65 => ⟨S8x256x128x128, .f32⟩
  | 66 => ⟨S8x256x128x128, .f32⟩
  | 67 => ⟨S8x128x128x256, .f32⟩
  | 68 => ⟨S8x256x128x128, .f32⟩
  | 69 => ⟨S1x256x1x1, .f32⟩
  | 70 => ⟨S8x256x128x128, .f32⟩
  | 71 => ⟨S8x256x128x128, .f32⟩
  | 72 => ⟨S_, .f32⟩
  | 73 => ⟨S_, .f32⟩
  | 74 => ⟨S8x256x128x128, .f32⟩
  | 75 => ⟨S8x256x128x128, .f32⟩
  | 76 => ⟨S_, .f32⟩
  | 77 => ⟨S_, .f32⟩
  | 78 => ⟨S8x256x128x128, .f32⟩
  | 79 => ⟨S_, .f32⟩
  | 80 => ⟨S8x256x128x128, .f32⟩
  | 81 => ⟨S8x256x128x128, .f32⟩
  | 82 => ⟨S_, .f32⟩
  | 83 => ⟨S8x256x128x128, .f32⟩
  | 84 => ⟨S8x256x128x128, .f32⟩
  | 85 => ⟨S8x256x128x128, .f32⟩
  | 86 => ⟨S8x256x128x128, .f32⟩
  | 87 => ⟨S_, .f32⟩
  | 88 => ⟨S8x256x128x128, .f32⟩
  | 89 => ⟨S8x256x128x128, .f32⟩
  | 90 => ⟨S_, .f32⟩
  | 91 => ⟨S8x256x128x128, .f32⟩
  | 92 => ⟨S8x256x128x128, .f32⟩
  | 93 => ⟨S8x256x128x128, .f32⟩
  | 94 => ⟨S8x256x128x128, .f32⟩
  | 95 => ⟨S_, .f32⟩
  | 96 => ⟨S8x256x128x128, .f32⟩
  | 97 => ⟨S8x256x128x128, .f32⟩
  | 98 => ⟨S8x256x128x128, .f32⟩
  | 99 => ⟨S8x128x128x256, .f32⟩
  | 100 => ⟨S8x256x128x128, .f32⟩
  | 101 => ⟨S1x256x1x1, .f32⟩
  | 102 => ⟨S8x256x128x128, .f32⟩
  | 103 => ⟨S8x256x128x128, .f32⟩
  | 104 => ⟨S_, .f32⟩
  | 105 => ⟨S_, .f32⟩
  | 106 => ⟨S8x256x128x128, .f32⟩
  | 107 => ⟨S8x256x128x128, .f32⟩
  | 108 => ⟨S_, .f32⟩
  | 109 => ⟨S_, .f32⟩
  | 110 => ⟨S8x256x128x128, .f32⟩
  | 111 => ⟨S_, .f32⟩
  | 112 => ⟨S8x256x128x128, .f32⟩
  | 113 => ⟨S8x256x128x128, .f32⟩
  | 114 => ⟨S_, .f32⟩
  | 115 => ⟨S8x256x128x128, .f32⟩
  | 116 => ⟨S8x256x128x128, .f32⟩
  | 117 => ⟨S8x256x128x128, .f32⟩
  | 118 => ⟨S8x256x128x128, .f32⟩
  | 119 => ⟨S_, .f32⟩
  | 120 => ⟨S8x256x128x128, .f32⟩
  | 121 => ⟨S8x256x128x128, .f32⟩
  | 122 => ⟨S_, .f32⟩
  | 123 => ⟨S8x256x128x128, .f32⟩
  | 124 => ⟨S8x256x128x128, .f32⟩
  | 125 => ⟨S8x256x128x128, .f32⟩
  | 126 => ⟨S8x256x128x128, .f32⟩
  | 127 => ⟨S_, .f32⟩
  | _ => ⟨S8x256x128x128, .f32⟩

abbrev hbmTy0_1 (i : Nat) : BufTy := match i % 128 with
  | 0 => ⟨S8x256x128x128, .f32⟩
  | 1 => ⟨S8x256x128x128, .f32⟩
  | 2 => ⟨S8x256x128x128, .f32⟩
  | 3 => ⟨S8x128x128x256, .f32⟩
  | 4 => ⟨S8x256x128x128, .f32⟩
  | 5 => ⟨S1x256x1x1, .f32⟩
  | 6 => ⟨S8x256x128x128, .f32⟩
  | 7 => ⟨S8x256x128x128, .f32⟩
  | 8 => ⟨S8x256x128x128, .f32⟩
  | 9 => ⟨S_, .f32⟩
  | 10 => ⟨S8x128x128, .f32⟩
  | 11 => ⟨S8x128x128, .f32⟩
  | 12 => ⟨S8x256x128x128, .f32⟩
  | 13 => ⟨S_, .f32⟩
  | 14 => ⟨S8x128x128, .f32⟩
  | 15 => ⟨S8x128x128, .f32⟩
  | 16 => ⟨S8x256x128x128, .f32⟩
  | 17 => ⟨S_, .f32⟩
  | 18 => ⟨S8x128x128, .f32⟩
  | 19 => ⟨S8x128x128, .f32⟩
  | 20 => ⟨S8x128x128, .f32⟩
  | 21 => ⟨S8x16384, .f32⟩
  | 22 => ⟨S_, .f32⟩
  | 23 => ⟨S8, .f32⟩
  | 24 => ⟨S8x1, .f32⟩
  | 25 => ⟨S_, .f32⟩
  | 26 => ⟨S8, .f32⟩
  | 27 => ⟨S8x1, .f32⟩
  | 28 => ⟨S8x16384, .f32⟩
  | 29 => ⟨S8x16384, .f32⟩
  | 30 => ⟨S8x1, .f32⟩
  | 31 => ⟨S8x16384, .f32⟩
  | 32 => ⟨S8x16384, .f32⟩
  | 33 => ⟨S8x1x128x128, .f32⟩
  | 34 => ⟨S8x256x128x128, .f32⟩
  | 35 => ⟨S8x256x128x128, .f32⟩
  | 36 => ⟨S_, .f32⟩
  | 37 => ⟨S8x1x128x128, .f32⟩
  | 38 => ⟨S8x1x128x128, .f32⟩
  | 39 => ⟨S8x256x128x128, .f32⟩
  | 40 => ⟨S8x256x128x128, .f32⟩
  | 41 => ⟨S8x256x128x128, .f32⟩
  | _ => ⟨S8x256x128x128, .f32⟩

abbrev hbmTy (i : Nat) : BufTy := match i / 128 with
  | 0 => hbmTy0_0 i
  | 1 => hbmTy0_1 i
  | _ => ⟨S8x256x128x128, .f32⟩

abbrev bufTy : (tb : Table) → Fin (tcTables nBuf tb) → BufTy
  | .hbm, ⟨i, _⟩ => hbmTy i
  | _, _ => ⟨S8x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_3 : Ref sig .tc := ⟨.hbm, 26, rfl⟩
abbrev main_v11 : Ref sig .tc := ⟨.hbm, 27, rfl⟩
abbrev main_v12 : Ref sig .tc := ⟨.hbm, 28, rfl⟩
abbrev main_cst_4 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_6 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_7 : Ref sig .tc := ⟨.hbm, 42, rfl⟩
abbrev main_v23 : Ref sig .tc := ⟨.hbm, 43, rfl⟩
abbrev main_v24 : Ref sig .tc := ⟨.hbm, 44, rfl⟩
abbrev main_cst_8 : Ref sig .tc := ⟨.hbm, 45, rfl⟩
abbrev main_v25 : Ref sig .tc := ⟨.hbm, 46, rfl⟩
abbrev main_v26 : Ref sig .tc := ⟨.hbm, 47, rfl⟩
abbrev main_cst_9 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_10 : Ref sig .tc := ⟨.hbm, 53, rfl⟩
abbrev main_v31 : Ref sig .tc := ⟨.hbm, 54, rfl⟩
abbrev main_v32 : Ref sig .tc := ⟨.hbm, 55, rfl⟩
abbrev main_cst_11 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_12 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_13 : Ref sig .tc := ⟨.hbm, 76, rfl⟩
abbrev main_v51 : Ref sig .tc := ⟨.hbm, 77, rfl⟩
abbrev main_v52 : Ref sig .tc := ⟨.hbm, 78, rfl⟩
abbrev main_cst_14 : Ref sig .tc := ⟨.hbm, 79, rfl⟩
abbrev main_v53 : Ref sig .tc := ⟨.hbm, 80, rfl⟩
abbrev main_v54 : Ref sig .tc := ⟨.hbm, 81, rfl⟩
abbrev main_cst_15 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_16 : Ref sig .tc := ⟨.hbm, 87, rfl⟩
abbrev main_v59 : Ref sig .tc := ⟨.hbm, 88, rfl⟩
abbrev main_v60 : Ref sig .tc := ⟨.hbm, 89, rfl⟩
abbrev main_cst_17 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_18 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_19 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_20 : Ref sig .tc := ⟨.hbm, 108, rfl⟩
abbrev main_v76 : Ref sig .tc := ⟨.hbm, 109, rfl⟩
abbrev main_v77 : Ref sig .tc := ⟨.hbm, 110, rfl⟩
abbrev main_cst_21 : Ref sig .tc := ⟨.hbm, 111, rfl⟩
abbrev main_v78 : Ref sig .tc := ⟨.hbm, 112, rfl⟩
abbrev main_v79 : Ref sig .tc := ⟨.hbm, 113, rfl⟩
abbrev main_cst_22 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_23 : Ref sig .tc := ⟨.hbm, 119, rfl⟩
abbrev main_v84 : Ref sig .tc := ⟨.hbm, 120, rfl⟩
abbrev main_v85 : Ref sig .tc := ⟨.hbm, 121, rfl⟩
abbrev main_cst_24 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_25 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_26 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_27 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_cst_28 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_cst_29 : Ref sig .tc := ⟨.hbm, 150, rfl⟩
abbrev main_v109 : Ref sig .tc := ⟨.hbm, 151, rfl⟩
abbrev main_v110 : Ref sig .tc := ⟨.hbm, 152, rfl⟩
abbrev main_cst_30 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_cst_31 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩

abbrev nD : Nat := 1
abbrev τ : Topo := Topo.v7x

variable {F : FTy → Type} [FloatOps F]
-- ==== Proof.KernelIdeal.Runs0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.TableIdle

@[expose] public section

-- membership in a rectangle of production extents (`View.cover_of_tiled`): the elaborator's structural look
-- recurses once per coordinate of the long axes
set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_psf_main` (pipeline 0), at the entry contents `V` — class R -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 8) — by arithmetic of the point. -/
theorem hcond0_0 : ∀ t : Fin cfg0.N, cond0_0 (grid0.coords t) ↔ t.val % 8 = 0 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i1 — by arithmetic of the point. -/
theorem hcond0_1 : ∀ t : Fin cfg0.N, cond0_1 (grid0.coords t) ↔ 1 ≤ t.val % 8 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond0_1, k0_cond2, e0, e1]
    word_cmp
   : ∀ t : Fin grid0.N, cond0_1 (grid0.coords t) ↔ 1 ≤ t.val % 8)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 14 is never idle (an output stored at every point, under no condition). -/
theorem liveAt0_14 : ∀ t : Fin cfg0.N, cfg0.idle 14 (grid0.coords t) = false := fun _ => rfl
/-- Window 17 is never idle (an output stored at every point, under no condition). -/
theorem liveAt0_17 : ∀ t : Fin cfg0.N, cfg0.idle 17 (grid0.coords t) = false := fun _ => rfl
/-- Window 18 is never idle (an output stored at every point, under no condition). -/
theorem liveAt0_18 : ∀ t : Fin cfg0.N, cfg0.idle 18 (grid0.coords t) = false := fun _ => rfl
/-- Whether output 15's buffer is FRESH at each position `1 ‥ N` — holds nothing the body stored since the region's entry or the
    last write-back (written back at the point before, or idle there and fresh before it) —, as a bitmask the classifier
    computed, bit `n` for position `n + 1`; position 0 is fresh. `freshTab0_15_step` checks it against the configuration's own
    step point by point and Lib/Pipeline/TableIdle.lean `Cfg.fresh_tab` makes it `Cfg.fresh` (`fresh0_15_eq`). -/
def freshTab0_15 : ℕ → Bool
  | 0 => true
  | n + 1 => (0x8080808080808080 : ℕ).testBit n
theorem freshTab0_15_step : ∀ t : Fin cfg0.N,
    freshTab0_15 (t.val + 1) = ((cfg0.win 15).flush t || (cfg0.idle 15 (cfg0.grid.coords t) && freshTab0_15 t.val)) := by decide +kernel
theorem fresh0_15_eq (t : Fin cfg0.N) : cfg0.fresh 15 t.val = freshTab0_15 t.val :=
  Pipeline.Cfg.fresh_tab cfg0 15 freshTab0_15 rfl freshTab0_15_step t.val (Nat.le_of_lt t.isLt)
/-- At the points of case A the printed configuration (`Cfg.idle`) calls output 15 live: the case stores into it. -/
theorem liveAt0_15_A : ∀ t : Fin cfg0.N, cond0_0 (grid0.coords t) → ¬cond0_1 (grid0.coords t) → cfg0.idle 15 (grid0.coords t) = false := by decide +kernel
/-- At the points of case B the printed configuration (`Cfg.idle`) calls output 15 live: the case stores into it. -/
theorem liveAt0_15_B : ∀ t : Fin cfg0.N, ¬cond0_0 (grid0.coords t) → cond0_1 (grid0.coords t) → cfg0.idle 15 (grid0.coords t) = false := by decide +kernel
/-- At the points of case B, which keeps output 15's prior contents (reads it before covering, or covers it in part), the
    window's buffer is not FRESH: something was stored into it since the region's entry or its last write-back, idle points
    between or not (Lib/Pipeline/TableIdle.lean `Cfg.fresh`, by the table `freshTab0_15`). -/
theorem notFresh0_15_B : ∀ t : Fin cfg0.N, ¬cond0_0 (grid0.coords t) → cond0_1 (grid0.coords t) → cfg0.fresh 15 t.val = false := by
  intro t; rw [fresh0_15_eq t]; revert t; decide +kernel
/-- Whether output 16's buffer is FRESH at each position `1 ‥ N` — holds nothing the body stored since the region's entry or the
    last write-back (written back at the point before, or idle there and fresh before it) —, as a bitmask the classifier
    computed, bit `n` for position `n + 1`; position 0 is fresh. `freshTab0_16_step` checks it against the configuration's own
    step point by point and Lib/Pipeline/TableIdle.lean `Cfg.fresh_tab` makes it `Cfg.fresh` (`fresh0_16_eq`). -/
def freshTab0_16 : ℕ → Bool
  | 0 => true
  | n + 1 => (0x8080808080808080 : ℕ).testBit n
theorem freshTab0_16_step : ∀ t : Fin cfg0.N,
    freshTab0_16 (t.val + 1) = ((cfg0.win 16).flush t || (cfg0.idle 16 (cfg0.grid.coords t) && freshTab0_16 t.val)) := by decide +kernel
theorem fresh0_16_eq (t : Fin cfg0.N) : cfg0.fresh 16 t.val = freshTab0_16 t.val :=
  Pipeline.Cfg.fresh_tab cfg0 16 freshTab0_16 rfl freshTab0_16_step t.val (Nat.le_of_lt t.isLt)
/-- At the points of case A the printed configuration (`Cfg.idle`) calls output 16 live: the case stores into it. -/
theorem liveAt0_16_A : ∀ t : Fin cfg0.N, cond0_0 (grid0.coords t) → ¬cond0_1 (grid0.coords t) → cfg0.idle 16 (grid0.coords t) = false := by decide +kernel
/-- At the points of case B the printed configuration (`Cfg.idle`) calls output 16 live: the case stores into it. -/
theorem liveAt0_16_B : ∀ t : Fin cfg0.N, ¬cond0_0 (grid0.coords t) → cond0_1 (grid0.coords t) → cfg0.idle 16 (grid0.coords t) = false := by decide +kernel
/-- At the points of case B, which keeps output 16's prior contents (reads it before covering, or covers it in part), the
    window's buffer is not FRESH: something was stored into it since the region's entry or its last write-back, idle points
    between or not (Lib/Pipeline/TableIdle.lean `Cfg.fresh`, by the table `freshTab0_16`). -/
theorem notFresh0_16_B : ∀ t : Fin cfg0.N, ¬cond0_0 (grid0.coords t) → cond0_1 (grid0.coords t) → cfg0.fresh 16 t.val = false := by
  intro t; rw [fresh0_16_eq t]; revert t; decide +kernel

/-! ## The kernel body on any staging memrefs: a subtype the run finds -/

/-- One staging buffer of output window 14, through which its contents are stated (`View.read_writes_of_cover`: the
    choice does not matter). -/
abbrev VO0_14 : View sig .tc .vmem S1x1x2048 .f32 := (Memref.whole cc0_stg14_0 : Memref sig .tc .vmem S1x1x2048 .f32).view
/-- One staging buffer of output window 15, through which its contents are stated (`View.read_writes_of_cover`: the
    choice does not matter). -/
abbrev VO0_15 : View sig .tc .vmem S1x1x128 .f32 := (Memref.whole cc0_stg15_0 : Memref sig .tc .vmem S1x1x128 .f32).view
/-- One staging buffer of output window 16, through which its contents are stated (`View.read_writes_of_cover`: the
    choice does not matter). -/
abbrev VO0_16 : View sig .tc .vmem S1x1x128 .f32 := (Memref.whole cc0_stg16_0 : Memref sig .tc .vmem S1x1x128 .f32).view
/-- One staging buffer of output window 17, through which its contents are stated (`View.read_writes_of_cover`: the
    choice does not matter). -/
abbrev VO0_17 : View sig .tc .vmem S1x256x2048 .bf16 := (Memref.whole cc0_stg17_0 : Memref sig .tc .vmem S1x256x2048 .bf16).view
/-- One staging buffer of output window 18, through which its contents are stated (`View.read_writes_of_cover`: the
    choice does not matter). -/
abbrev VO0_18 : View sig .tc .vmem S1x256x2048 .bf16 := (Memref.whole cc0_stg18_0 : Memref sig .tc .vmem S1x256x2048 .bf16).view
/-- Each window's current staging memref at point `t`, spelled as the pipeline passes it (`bodyAt0`), and its wholeness. -/
abbrev ms0_0 (t : Fin cfg0.N) : Memref sig .tc .vmem S1x256x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x1 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x1 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1x2048 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x1x128 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x256x2048 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x256x2048 .bf16 := win0_18.stage (cfg0.slots t 18)
abbrev hs0_18 (t : Fin cfg0.N) : (ms0_18 t).IsWhole := hstage0_18 ((cfg0.slots t 18).cast nbuf0_18)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 8, … 56: 8 of 64), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x256x2048 .f32) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x256x2048 .f32) (harg5 : arg5.IsWhole) (arg6 : Memref sig .tc .vmem S1x256x512 .f32) (harg6 : arg6.IsWhole) (arg7 : Memref sig .tc .vmem S1x256x512 .f32) (harg7 : arg7.IsWhole) (arg8 : Memref sig .tc .vmem S256x256 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S1x1x2048 .f32) (harg16 : arg16.IsWhole) (arg17 : Memref sig .tc .vmem S1x1x128 .f32) (harg17 : arg17.IsWhole) (arg18 : Memref sig .tc .vmem S1x1x128 .f32) (harg18 : arg18.IsWhole) (arg19 : Memref sig .tc .vmem S1x256x2048 .bf16) (harg19 : arg19.IsWhole) (arg20 : Memref sig .tc .vmem S1x256x2048 .bf16) (harg20 : arg20.IsWhole) (hc0 : cond0_0 i) (hc1 : ¬cond0_1 i)
    (x0 : Vec F S1x256x2048 .f32) (x1 : Vec F S1x256x512 .f32) (x2 : Vec F S1x256x512 .f32) (x3 : Vec F S1x256x2048 .f32) (x4 : Vec F S1x256x512 .f32) (x5 : Vec F S1x256x512 .f32) (x6 : Vec F S256x256 .f32) (x7 : Vec F S256x1 .f32) (x8 : Vec F S256x256 .f32) (x9 : Vec F S256x1 .f32) (x10 : Vec F S256x256 .f32) (x11 : Vec F S256x1 .f32) (x12 : Vec F S256x256 .f32) (x13 : Vec F S256x1 .f32) :
    Σ' (L14 : List (View.Piece (Elt F) S1x1x2048 .f32)), Σ' (L15 : List (View.Piece (Elt F) S1x1x128 .f32)), Σ' (L16 : List (View.Piece (Elt F) S1x1x128 .f32)), Σ' (L17 : List (View.Piece (Elt F) S1x256x2048 .bf16)), { L18 : List (View.Piece (Elt F) S1x256x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18)) -∗ K ⟨⟩))
          ⊢ wp frame (wpE (defs₀ (F := F)) Variants.none c none) E (cc0_psf_main i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, fun E K => ?run⟩
  case run =>
    simp only [cc0_psf_main_eq_skeleton]; unfold cc0_psf_main_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    isplitl [H15]; · iexists _; iexact H15
    isplitl [H16]; · iexists _; iexact H16
    isplitl [H17]; · iexists _; iexact H17
    iexists _; iexact H18

/-- Case A's pieces for output 14 tile its block (1 store of `S1x1x2048`, checked by the kernel's evaluation: Lib/Ring.lean `Piece.tiledL`, linear in the pieces, through a loop's `@[irreducible]` trip theorem too), so they cover it. -/
theorem cover0_A_14 (c : Dev nD) (i : grid0.Coords) (arg2 : Memref sig .tc .vmem S1x256x2048 .f32) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x256x2048 .f32) (harg5 : arg5.IsWhole) (arg6 : Memref sig .tc .vmem S1x256x512 .f32) (harg6 : arg6.IsWhole) (arg7 : Memref sig .tc .vmem S1x256x512 .f32) (harg7 : arg7.IsWhole) (arg8 : Memref sig .tc .vmem S256x256 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S1x1x2048 .f32) (harg16 : arg16.IsWhole) (arg17 : Memref sig .tc .vmem S1x1x128 .f32) (harg17 : arg17.IsWhole) (arg18 : Memref sig .tc .vmem S1x1x128 .f32) (harg18 : arg18.IsWhole) (arg19 : Memref sig .tc .vmem S1x256x2048 .bf16) (harg19 : arg19.IsWhole) (arg20 : Memref sig .tc .vmem S1x256x2048 .bf16) (harg20 : arg20.IsWhole) (hc0 : cond0_0 i) (hc1 : ¬cond0_1 i)
    (x0 : Vec F S1x256x2048 .f32) (x1 : Vec F S1x256x512 .f32) (x2 : Vec F S1x256x512 .f32) (x3 : Vec F S1x256x2048 .f32) (x4 : Vec F S1x256x512 .f32) (x5 : Vec F S1x256x512 .f32) (x6 : Vec F S256x256 .f32) (x7 : Vec F S256x1 .f32) (x8 : Vec F S256x256 .f32) (x9 : Vec F S256x1 .f32) (x10 : Vec F S256x256 .f32) (x11 : Vec F S256x1 .f32) (x12 : Vec F S256x256 .f32) (x13 : Vec F S256x1 .f32) (y : S1x1x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13).1 S1x1x2048.size (by sl_kernel_rfl) y

/-- What case A leaves in output 14's staging buffer: its pieces read back over junk. -/
def out0_A_14 (c : Dev nD) (i : grid0.Coords) (arg2 : Memref sig .tc .vmem S1x256x2048 .f32) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x256x2048 .f32) (harg5 : arg5.IsWhole) (arg6 : Memref sig .tc .vmem S1x256x512 .f32) (harg6 : arg6.IsWhole) (arg7 : Memref sig .tc .vmem S1x256x512 .f32) (harg7 : arg7.IsWhole) (arg8 : Memref sig .tc .vmem S256x256 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S1x1x2048 .f32) (harg16 : arg16.IsWhole) (arg17 : Memref sig .tc .vmem S1x1x128 .f32) (harg17 : arg17.IsWhole) (arg18 : Memref sig .tc .vmem S1x1x128 .f32) (harg18 : arg18.IsWhole) (arg19 : Memref sig .tc .vmem S1x256x2048 .bf16) (harg19 : arg19.IsWhole) (arg20 : Memref sig .tc .vmem S1x256x2048 .bf16) (harg20 : arg20.IsWhole) (hc0 : cond0_0 i) (hc1 : ¬cond0_1 i)
    (x0 : Vec F S1x256x2048 .f32) (x1 : Vec F S1x256x512 .f32) (x2 : Vec F S1x256x512 .f32) (x3 : Vec F S1x256x2048 .f32) (x4 : Vec F S1x256x512 .f32) (x5 : Vec F S1x256x512 .f32) (x6 : Vec F S256x256 .f32) (x7 : Vec F S256x1 .f32) (x8 : Vec F S256x256 .f32) (x9 : Vec F S256x1 .f32) (x10 : Vec F S256x256 .f32) (x11 : Vec F S256x1 .f32) (x12 : Vec F S256x256 .f32) (x13 : Vec F S256x1 .f32) : Vec F S1x1x2048 .f32 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13).1)

/-- Case A's pieces for output 15 tile its block (1 store of `S1x1x128`, checked by the kernel's evaluation: Lib/Ring.lean `Piece.tiledL`, linear in the pieces, through a loop's `@[irreducible]` trip theorem too), so they cover it. -/
theorem cover0_A_15 (c : Dev nD) (i : grid0.Coords) (arg2 : Memref sig .tc .vmem S1x256x2048 .f32) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x256x2048 .f32) (harg5 : arg5.IsWhole) (arg6 : Memref sig .tc .vmem S1x256x512 .f32) (harg6 : arg6.IsWhole) (arg7 : Memref sig .tc .vmem S1x256x512 .f32) (harg7 : arg7.IsWhole) (arg8 : Memref sig .tc .vmem S256x256 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S1x1x2048 .f32) (harg16 : arg16.IsWhole) (arg17 : Memref sig .tc .vmem S1x1x128 .f32) (harg17 : arg17.IsWhole) (arg18 : Memref sig .tc .vmem S1x1x128 .f32) (harg18 : arg18.IsWhole) (arg19 : Memref sig .tc .vmem S1x256x2048 .bf16) (harg19 : arg19.IsWhole) (arg20 : Memref sig .tc .vmem S1x256x2048 .bf16) (harg20 : arg20.IsWhole) (hc0 : cond0_0 i) (hc1 : ¬cond0_1 i)
    (x0 : Vec F S1x256x2048 .f32) (x1 : Vec F S1x256x512 .f32) (x2 : Vec F S1x256x512 .f32) (x3 : Vec F S1x256x2048 .f32) (x4 : Vec F S1x256x512 .f32) (x5 : Vec F S1x256x512 .f32) (x6 : Vec F S256x256 .f32) (x7 : Vec F S256x1 .f32) (x8 : Vec F S256x256 .f32) (x9 : Vec F S256x1 .f32) (x10 : Vec F S256x256 .f32) (x11 : Vec F S256x1 .f32) (x12 : Vec F S256x256 .f32) (x13 : Vec F S256x1 .f32) (y : S1x1x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13).2.1 S1x1x128.size (by sl_kernel_rfl) y

/-- What case A leaves in output 15's staging buffer: its pieces read back over junk. -/
def out0_A_15 (c : Dev nD) (i : grid0.Coords) (arg2 : Memref sig .tc .vmem S1x256x2048 .f32) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x256x2048 .f32) (harg5 : arg5.IsWhole) (arg6 : Memref sig .tc .vmem S1x256x512 .f32) (harg6 : arg6.IsWhole) (arg7 : Memref sig .tc .vmem S1x256x512 .f32) (harg7 : arg7.IsWhole) (arg8 : Memref sig .tc .vmem S256x256 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S1x1x2048 .f32) (harg16 : arg16.IsWhole) (arg17 : Memref sig .tc .vmem S1x1x128 .f32) (harg17 : arg17.IsWhole) (arg18 : Memref sig .tc .vmem S1x1x128 .f32) (harg18 : arg18.IsWhole) (arg19 : Memref sig .tc .vmem S1x256x2048 .bf16) (harg19 : arg19.IsWhole) (arg20 : Memref sig .tc .vmem S1x256x2048 .bf16) (harg20 : arg20.IsWhole) (hc0 : cond0_0 i) (hc1 : ¬cond0_1 i)
    (x0 : Vec F S1x256x2048 .f32) (x1 : Vec F S1x256x512 .f32) (x2 : Vec F S1x256x512 .f32) (x3 : Vec F S1x256x2048 .f32) (x4 : Vec F S1x256x512 .f32) (x5 : Vec F S1x256x512 .f32) (x6 : Vec F S256x256 .f32) (x7 : Vec F S256x1 .f32) (x8 : Vec F S256x256 .f32) (x9 : Vec F S256x1 .f32) (x10 : Vec F S256x256 .f32) (x11 : Vec F S256x1 .f32) (x12 : Vec F S256x256 .f32) (x13 : Vec F S256x1 .f32) : Vec F S1x1x128 .f32 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13).2.1)

/-- Case A's pieces for output 16 tile its block (1 store of `S1x1x128`, checked by the kernel's evaluation: Lib/Ring.lean `Piece.tiledL`, linear in the pieces, through a loop's `@[irreducible]` trip theorem too), so they cover it. -/
theorem cover0_A_16 (c : Dev nD) (i : grid0.Coords) (arg2 : Memref sig .tc .vmem S1x256x2048 .f32) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x256x2048 .f32) (harg5 : arg5.IsWhole) (arg6 : Memref sig .tc .vmem S1x256x512 .f32) (harg6 : arg6.IsWhole) (arg7 : Memref sig .tc .vmem S1x256x512 .f32) (harg7 : arg7.IsWhole) (arg8 : Memref sig .tc .vmem S256x256 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S1x1x2048 .f32) (harg16 : arg16.IsWhole) (arg17 : Memref sig .tc .vmem S1x1x128 .f32) (harg17 : arg17.IsWhole) (arg18 : Memref sig .tc .vmem S1x1x128 .f32) (harg18 : arg18.IsWhole) (arg19 : Memref sig .tc .vmem S1x256x2048 .bf16) (harg19 : arg19.IsWhole) (arg20 : Memref sig .tc .vmem S1x256x2048 .bf16) (harg20 : arg20.IsWhole) (hc0 : cond0_0 i) (hc1 : ¬cond0_1 i)
    (x0 : Vec F S1x256x2048 .f32) (x1 : Vec F S1x256x512 .f32) (x2 : Vec F S1x256x512 .f32) (x3 : Vec F S1x256x2048 .f32) (x4 : Vec F S1x256x512 .f32) (x5 : Vec F S1x256x512 .f32) (x6 : Vec F S256x256 .f32) (x7 : Vec F S256x1 .f32) (x8 : Vec F S256x256 .f32) (x9 : Vec F S256x1 .f32) (x10 : Vec F S256x256 .f32) (x11 : Vec F S256x1 .f32) (x12 : Vec F S256x256 .f32) (x13 : Vec F S256x1 .f32) (y : S1x1x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13).2.2.1 S1x1x128.size (by sl_kernel_rfl) y

/-- What case A leaves in output 16's staging buffer: its pieces read back over junk. -/
def out0_A_16 (c : Dev nD) (i : grid0.Coords) (arg2 : Memref sig .tc .vmem S1x256x2048 .f32) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x256x2048 .f32) (harg5 : arg5.IsWhole) (arg6 : Memref sig .tc .vmem S1x256x512 .f32) (harg6 : arg6.IsWhole) (arg7 : Memref sig .tc .vmem S1x256x512 .f32) (harg7 : arg7.IsWhole) (arg8 : Memref sig .tc .vmem S256x256 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S1x1x2048 .f32) (harg16 : arg16.IsWhole) (arg17 : Memref sig .tc .vmem S1x1x128 .f32) (harg17 : arg17.IsWhole) (arg18 : Memref sig .tc .vmem S1x1x128 .f32) (harg18 : arg18.IsWhole) (arg19 : Memref sig .tc .vmem S1x256x2048 .bf16) (harg19 : arg19.IsWhole) (arg20 : Memref sig .tc .vmem S1x256x2048 .bf16) (harg20 : arg20.IsWhole) (hc0 : cond0_0 i) (hc1 : ¬cond0_1 i)
    (x0 : Vec F S1x256x2048 .f32) (x1 : Vec F S1x256x512 .f32) (x2 : Vec F S1x256x512 .f32) (x3 : Vec F S1x256x2048 .f32) (x4 : Vec F S1x256x512 .f32) (x5 : Vec F S1x256x512 .f32) (x6 : Vec F S256x256 .f32) (x7 : Vec F S256x1 .f32) (x8 : Vec F S256x256 .f32) (x9 : Vec F S256x1 .f32) (x10 : Vec F S256x256 .f32) (x11 : Vec F S256x1 .f32) (x12 : Vec F S256x256 .f32) (x13 : Vec F S256x1 .f32) : Vec F S1x1x128 .f32 :=
  VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13).2.2.1)

/-- Case A's pieces for output 17 tile its block (1 store of `S1x256x2048`, checked by the kernel's evaluation: Lib/Ring.lean `Piece.tiledL`, linear in the pieces, through a loop's `@[irreducible]` trip theorem too), so they cover it. -/
theorem cover0_A_17 (c : Dev nD) (i : grid0.Coords) (arg2 : Memref sig .tc .vmem S1x256x2048 .f32) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x256x2048 .f32) (harg5 : arg5.IsWhole) (arg6 : Memref sig .tc .vmem S1x256x512 .f32) (harg6 : arg6.IsWhole) (arg7 : Memref sig .tc .vmem S1x256x512 .f32) (harg7 : arg7.IsWhole) (arg8 : Memref sig .tc .vmem S256x256 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S1x1x2048 .f32) (harg16 : arg16.IsWhole) (arg17 : Memref sig .tc .vmem S1x1x128 .f32) (harg17 : arg17.IsWhole) (arg18 : Memref sig .tc .vmem S1x1x128 .f32) (harg18 : arg18.IsWhole) (arg19 : Memref sig .tc .vmem S1x256x2048 .bf16) (harg19 : arg19.IsWhole) (arg20 : Memref sig .tc .vmem S1x256x2048 .bf16) (harg20 : arg20.IsWhole) (hc0 : cond0_0 i) (hc1 : ¬cond0_1 i)
    (x0 : Vec F S1x256x2048 .f32) (x1 : Vec F S1x256x512 .f32) (x2 : Vec F S1x256x512 .f32) (x3 : Vec F S1x256x2048 .f32) (x4 : Vec F S1x256x512 .f32) (x5 : Vec F S1x256x512 .f32) (x6 : Vec F S256x256 .f32) (x7 : Vec F S256x1 .f32) (x8 : Vec F S256x256 .f32) (x9 : Vec F S256x1 .f32) (x10 : Vec F S256x256 .f32) (x11 : Vec F S256x1 .f32) (x12 : Vec F S256x256 .f32) (x13 : Vec F S256x1 .f32) (y : S1x256x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13).2.2.2.1 S1x256x2048.size (by sl_kernel_rfl) y

/-- What case A leaves in output 17's staging buffer: its pieces read back over junk. -/
def out0_A_17 (c : Dev nD) (i : grid0.Coords) (arg2 : Memref sig .tc .vmem S1x256x2048 .f32) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x256x2048 .f32) (harg5 : arg5.IsWhole) (arg6 : Memref sig .tc .vmem S1x256x512 .f32) (harg6 : arg6.IsWhole) (arg7 : Memref sig .tc .vmem S1x256x512 .f32) (harg7 : arg7.IsWhole) (arg8 : Memref sig .tc .vmem S256x256 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S1x1x2048 .f32) (harg16 : arg16.IsWhole) (arg17 : Memref sig .tc .vmem S1x1x128 .f32) (harg17 : arg17.IsWhole) (arg18 : Memref sig .tc .vmem S1x1x128 .f32) (harg18 : arg18.IsWhole) (arg19 : Memref sig .tc .vmem S1x256x2048 .bf16) (harg19 : arg19.IsWhole) (arg20 : Memref sig .tc .vmem S1x256x2048 .bf16) (harg20 : arg20.IsWhole) (hc0 : cond0_0 i) (hc1 : ¬cond0_1 i)
    (x0 : Vec F S1x256x2048 .f32) (x1 : Vec F S1x256x512 .f32) (x2 : Vec F S1x256x512 .f32) (x3 : Vec F S1x256x2048 .f32) (x4 : Vec F S1x256x512 .f32) (x5 : Vec F S1x256x512 .f32) (x6 : Vec F S256x256 .f32) (x7 : Vec F S256x1 .f32) (x8 : Vec F S256x256 .f32) (x9 : Vec F S256x1 .f32) (x10 : Vec F S256x256 .f32) (x11 : Vec F S256x1 .f32) (x12 : Vec F S256x256 .f32) (x13 : Vec F S256x1 .f32) : Vec F S1x256x2048 .bf16 :=
  VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13).2.2.2.1)

/-- Case A's pieces for output 18 tile its block (1 store of `S1x256x2048`, checked by the kernel's evaluation: Lib/Ring.lean `Piece.tiledL`, linear in the pieces, through a loop's `@[irreducible]` trip theorem too), so they cover it. -/
theorem cover0_A_18 (c : Dev nD) (i : grid0.Coords) (arg2 : Memref sig .tc .vmem S1x256x2048 .f32) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x256x2048 .f32) (harg5 : arg5.IsWhole) (arg6 : Memref sig .tc .vmem S1x256x512 .f32) (harg6 : arg6.IsWhole) (arg7 : Memref sig .tc .vmem S1x256x512 .f32) (harg7 : arg7.IsWhole) (arg8 : Memref sig .tc .vmem S256x256 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S1x1x2048 .f32) (harg16 : arg16.IsWhole) (arg17 : Memref sig .tc .vmem S1x1x128 .f32) (harg17 : arg17.IsWhole) (arg18 : Memref sig .tc .vmem S1x1x128 .f32) (harg18 : arg18.IsWhole) (arg19 : Memref sig .tc .vmem S1x256x2048 .bf16) (harg19 : arg19.IsWhole) (arg20 : Memref sig .tc .vmem S1x256x2048 .bf16) (harg20 : arg20.IsWhole) (hc0 : cond0_0 i) (hc1 : ¬cond0_1 i)
    (x0 : Vec F S1x256x2048 .f32) (x1 : Vec F S1x256x512 .f32) (x2 : Vec F S1x256x512 .f32) (x3 : Vec F S1x256x2048 .f32) (x4 : Vec F S1x256x512 .f32) (x5 : Vec F S1x256x512 .f32) (x6 : Vec F S256x256 .f32) (x7 : Vec F S256x1 .f32) (x8 : Vec F S256x256 .f32) (x9 : Vec F S256x1 .f32) (x10 : Vec F S256x256 .f32) (x11 : Vec F S256x1 .f32) (x12 : Vec F S256x256 .f32) (x13 : Vec F S256x1 .f32) (y : S1x256x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13).2.2.2.2.1 S1x256x2048.size (by sl_kernel_rfl) y

/-- What case A leaves in output 18's staging buffer: its pieces read back over junk. -/
def out0_A_18 (c : Dev nD) (i : grid0.Coords) (arg2 : Memref sig .tc .vmem S1x256x2048 .f32) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x256x2048 .f32) (harg5 : arg5.IsWhole) (arg6 : Memref sig .tc .vmem S1x256x512 .f32) (harg6 : arg6.IsWhole) (arg7 : Memref sig .tc .vmem S1x256x512 .f32) (harg7 : arg7.IsWhole) (arg8 : Memref sig .tc .vmem S256x256 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S1x1x2048 .f32) (harg16 : arg16.IsWhole) (arg17 : Memref sig .tc .vmem S1x1x128 .f32) (harg17 : arg17.IsWhole) (arg18 : Memref sig .tc .vmem S1x1x128 .f32) (harg18 : arg18.IsWhole) (arg19 : Memref sig .tc .vmem S1x256x2048 .bf16) (harg19 : arg19.IsWhole) (arg20 : Memref sig .tc .vmem S1x256x2048 .bf16) (harg20 : arg20.IsWhole) (hc0 : cond0_0 i) (hc1 : ¬cond0_1 i)
    (x0 : Vec F S1x256x2048 .f32) (x1 : Vec F S1x256x512 .f32) (x2 : Vec F S1x256x512 .f32) (x3 : Vec F S1x256x2048 .f32) (x4 : Vec F S1x256x512 .f32) (x5 : Vec F S1x256x512 .f32) (x6 : Vec F S256x256 .f32) (x7 : Vec F S256x1 .f32) (x8 : Vec F S256x256 .f32) (x9 : Vec F S256x1 .f32) (x10 : Vec F S256x256 .f32) (x11 : Vec F S256x1 .f32) (x12 : Vec F S256x256 .f32) (x13 : Vec F S256x1 .f32) : Vec F S1x256x2048 .bf16 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13).2.2.2.2.1)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 63: 56 of 64), WITH the
    proof that on whole staging memrefs — the inputs' at their contents, the outputs it reads before covering (15, 16) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x256x2048 .f32) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x256x2048 .f32) (harg5 : arg5.IsWhole) (arg6 : Memref sig .tc .vmem S1x256x512 .f32) (harg6 : arg6.IsWhole) (arg7 : Memref sig .tc .vmem S1x256x512 .f32) (harg7 : arg7.IsWhole) (arg8 : Memref sig .tc .vmem S256x256 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S1x1x2048 .f32) (harg16 : arg16.IsWhole) (arg17 : Memref sig .tc .vmem S1x1x128 .f32) (harg17 : arg17.IsWhole) (arg18 : Memref sig .tc .vmem S1x1x128 .f32) (harg18 : arg18.IsWhole) (arg19 : Memref sig .tc .vmem S1x256x2048 .bf16) (harg19 : arg19.IsWhole) (arg20 : Memref sig .tc .vmem S1x256x2048 .bf16) (harg20 : arg20.IsWhole) (hc0 : ¬cond0_0 i) (hc1 : cond0_1 i)
    (x0 : Vec F S1x256x2048 .f32) (x1 : Vec F S1x256x512 .f32) (x2 : Vec F S1x256x512 .f32) (x3 : Vec F S1x256x2048 .f32) (x4 : Vec F S1x256x512 .f32) (x5 : Vec F S1x256x512 .f32) (x6 : Vec F S256x256 .f32) (x7 : Vec F S256x1 .f32) (x8 : Vec F S256x256 .f32) (x9 : Vec F S256x1 .f32) (x10 : Vec F S256x256 .f32) (x11 : Vec F S256x1 .f32) (x12 : Vec F S256x256 .f32) (x13 : Vec F S256x1 .f32) (xo15 : Vec F S1x1x128 .f32) (xo16 : Vec F S1x1x128 .f32) :
    Σ' (L14 : List (View.Piece (Elt F) S1x1x2048 .f32)), Σ' (L15 : List (View.Piece (Elt F) S1x1x128 .f32)), Σ' (L16 : List (View.Piece (Elt F) S1x1x128 .f32)), Σ' (L17 : List (View.Piece (Elt F) S1x256x2048 .bf16)), { L18 : List (View.Piece (Elt F) S1x256x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ owns (c : Thread nD τ) arg17 fullShare xo15 ∗ owns (c : Thread nD τ) arg18 fullShare xo16 ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18)) -∗ K ⟨⟩))
          ⊢ wp frame (wpE (defs₀ (F := F)) Variants.none c none) E (cc0_psf_main i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, fun E K => ?run⟩
  case run =>
    simp only [cc0_psf_main_eq_skeleton]; unfold cc0_psf_main_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, ⟨%d17, %f17, -, H17⟩, ⟨%d18, %f18, -, H18⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg17.eq_unread hf15; obtain rfl := harg18.eq_unread hf16
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    isplitl [H15]; · iexists _; iexact H15
    isplitl [H16]; · iexists _; iexact H16
    isplitl [H17]; · iexists _; iexact H17
    iexists _; iexact H18

/-- Case B's pieces for output 14 tile its block (1 store of `S1x1x2048`, checked by the kernel's evaluation: Lib/Ring.lean `Piece.tiledL`, linear in the pieces, through a loop's `@[irreducible]` trip theorem too), so they cover it. -/
theorem cover0_B_14 (c : Dev nD) (i : grid0.Coords) (arg2 : Memref sig .tc .vmem S1x256x2048 .f32) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x256x2048 .f32) (harg5 : arg5.IsWhole) (arg6 : Memref sig .tc .vmem S1x256x512 .f32) (harg6 : arg6.IsWhole) (arg7 : Memref sig .tc .vmem S1x256x512 .f32) (harg7 : arg7.IsWhole) (arg8 : Memref sig .tc .vmem S256x256 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S1x1x2048 .f32) (harg16 : arg16.IsWhole) (arg17 : Memref sig .tc .vmem S1x1x128 .f32) (harg17 : arg17.IsWhole) (arg18 : Memref sig .tc .vmem S1x1x128 .f32) (harg18 : arg18.IsWhole) (arg19 : Memref sig .tc .vmem S1x256x2048 .bf16) (harg19 : arg19.IsWhole) (arg20 : Memref sig .tc .vmem S1x256x2048 .bf16) (harg20 : arg20.IsWhole) (hc0 : ¬cond0_0 i) (hc1 : cond0_1 i)
    (x0 : Vec F S1x256x2048 .f32) (x1 : Vec F S1x256x512 .f32) (x2 : Vec F S1x256x512 .f32) (x3 : Vec F S1x256x2048 .f32) (x4 : Vec F S1x256x512 .f32) (x5 : Vec F S1x256x512 .f32) (x6 : Vec F S256x256 .f32) (x7 : Vec F S256x1 .f32) (x8 : Vec F S256x256 .f32) (x9 : Vec F S256x1 .f32) (x10 : Vec F S256x256 .f32) (x11 : Vec F S256x1 .f32) (x12 : Vec F S256x256 .f32) (x13 : Vec F S256x1 .f32) (xo15 : Vec F S1x1x128 .f32) (xo16 : Vec F S1x1x128 .f32) (y : S1x1x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo15 xo16).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo15 xo16).1 S1x1x2048.size (by sl_kernel_rfl) y

/-- What case B leaves in output 14's staging buffer: its pieces read back over junk. -/
def out0_B_14 (c : Dev nD) (i : grid0.Coords) (arg2 : Memref sig .tc .vmem S1x256x2048 .f32) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x256x2048 .f32) (harg5 : arg5.IsWhole) (arg6 : Memref sig .tc .vmem S1x256x512 .f32) (harg6 : arg6.IsWhole) (arg7 : Memref sig .tc .vmem S1x256x512 .f32) (harg7 : arg7.IsWhole) (arg8 : Memref sig .tc .vmem S256x256 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S1x1x2048 .f32) (harg16 : arg16.IsWhole) (arg17 : Memref sig .tc .vmem S1x1x128 .f32) (harg17 : arg17.IsWhole) (arg18 : Memref sig .tc .vmem S1x1x128 .f32) (harg18 : arg18.IsWhole) (arg19 : Memref sig .tc .vmem S1x256x2048 .bf16) (harg19 : arg19.IsWhole) (arg20 : Memref sig .tc .vmem S1x256x2048 .bf16) (harg20 : arg20.IsWhole) (hc0 : ¬cond0_0 i) (hc1 : cond0_1 i)
    (x0 : Vec F S1x256x2048 .f32) (x1 : Vec F S1x256x512 .f32) (x2 : Vec F S1x256x512 .f32) (x3 : Vec F S1x256x2048 .f32) (x4 : Vec F S1x256x512 .f32) (x5 : Vec F S1x256x512 .f32) (x6 : Vec F S256x256 .f32) (x7 : Vec F S256x1 .f32) (x8 : Vec F S256x256 .f32) (x9 : Vec F S256x1 .f32) (x10 : Vec F S256x256 .f32) (x11 : Vec F S256x1 .f32) (x12 : Vec F S256x256 .f32) (x13 : Vec F S256x1 .f32) (xo15 : Vec F S1x1x128 .f32) (xo16 : Vec F S1x1x128 .f32) : Vec F S1x1x2048 .f32 :=
  VO0_14.read (Elt F) (VO0_14.writes (Elt F) VO0_14.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo15 xo16).1)

/-- Case B's pieces for output 15 tile its block (1 store of `S1x1x128`, checked by the kernel's evaluation: Lib/Ring.lean `Piece.tiledL`, linear in the pieces, through a loop's `@[irreducible]` trip theorem too), so they cover it. -/
theorem cover0_B_15 (c : Dev nD) (i : grid0.Coords) (arg2 : Memref sig .tc .vmem S1x256x2048 .f32) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x256x2048 .f32) (harg5 : arg5.IsWhole) (arg6 : Memref sig .tc .vmem S1x256x512 .f32) (harg6 : arg6.IsWhole) (arg7 : Memref sig .tc .vmem S1x256x512 .f32) (harg7 : arg7.IsWhole) (arg8 : Memref sig .tc .vmem S256x256 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S1x1x2048 .f32) (harg16 : arg16.IsWhole) (arg17 : Memref sig .tc .vmem S1x1x128 .f32) (harg17 : arg17.IsWhole) (arg18 : Memref sig .tc .vmem S1x1x128 .f32) (harg18 : arg18.IsWhole) (arg19 : Memref sig .tc .vmem S1x256x2048 .bf16) (harg19 : arg19.IsWhole) (arg20 : Memref sig .tc .vmem S1x256x2048 .bf16) (harg20 : arg20.IsWhole) (hc0 : ¬cond0_0 i) (hc1 : cond0_1 i)
    (x0 : Vec F S1x256x2048 .f32) (x1 : Vec F S1x256x512 .f32) (x2 : Vec F S1x256x512 .f32) (x3 : Vec F S1x256x2048 .f32) (x4 : Vec F S1x256x512 .f32) (x5 : Vec F S1x256x512 .f32) (x6 : Vec F S256x256 .f32) (x7 : Vec F S256x1 .f32) (x8 : Vec F S256x256 .f32) (x9 : Vec F S256x1 .f32) (x10 : Vec F S256x256 .f32) (x11 : Vec F S256x1 .f32) (x12 : Vec F S256x256 .f32) (x13 : Vec F S256x1 .f32) (xo15 : Vec F S1x1x128 .f32) (xo16 : Vec F S1x1x128 .f32) (y : S1x1x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo15 xo16).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo15 xo16).2.1 S1x1x128.size (by sl_kernel_rfl) y

/-- What case B leaves in output 15's staging buffer: its pieces read back over junk. -/
def out0_B_15 (c : Dev nD) (i : grid0.Coords) (arg2 : Memref sig .tc .vmem S1x256x2048 .f32) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x256x2048 .f32) (harg5 : arg5.IsWhole) (arg6 : Memref sig .tc .vmem S1x256x512 .f32) (harg6 : arg6.IsWhole) (arg7 : Memref sig .tc .vmem S1x256x512 .f32) (harg7 : arg7.IsWhole) (arg8 : Memref sig .tc .vmem S256x256 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S1x1x2048 .f32) (harg16 : arg16.IsWhole) (arg17 : Memref sig .tc .vmem S1x1x128 .f32) (harg17 : arg17.IsWhole) (arg18 : Memref sig .tc .vmem S1x1x128 .f32) (harg18 : arg18.IsWhole) (arg19 : Memref sig .tc .vmem S1x256x2048 .bf16) (harg19 : arg19.IsWhole) (arg20 : Memref sig .tc .vmem S1x256x2048 .bf16) (harg20 : arg20.IsWhole) (hc0 : ¬cond0_0 i) (hc1 : cond0_1 i)
    (x0 : Vec F S1x256x2048 .f32) (x1 : Vec F S1x256x512 .f32) (x2 : Vec F S1x256x512 .f32) (x3 : Vec F S1x256x2048 .f32) (x4 : Vec F S1x256x512 .f32) (x5 : Vec F S1x256x512 .f32) (x6 : Vec F S256x256 .f32) (x7 : Vec F S256x1 .f32) (x8 : Vec F S256x256 .f32) (x9 : Vec F S256x1 .f32) (x10 : Vec F S256x256 .f32) (x11 : Vec F S256x1 .f32) (x12 : Vec F S256x256 .f32) (x13 : Vec F S256x1 .f32) (xo15 : Vec F S1x1x128 .f32) (xo16 : Vec F S1x1x128 .f32) : Vec F S1x1x128 .f32 :=
  VO0_15.read (Elt F) (VO0_15.writes (Elt F) VO0_15.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo15 xo16).2.1)

/-- Case B's pieces for output 16 tile its block (1 store of `S1x1x128`, checked by the kernel's evaluation: Lib/Ring.lean `Piece.tiledL`, linear in the pieces, through a loop's `@[irreducible]` trip theorem too), so they cover it. -/
theorem cover0_B_16 (c : Dev nD) (i : grid0.Coords) (arg2 : Memref sig .tc .vmem S1x256x2048 .f32) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x256x2048 .f32) (harg5 : arg5.IsWhole) (arg6 : Memref sig .tc .vmem S1x256x512 .f32) (harg6 : arg6.IsWhole) (arg7 : Memref sig .tc .vmem S1x256x512 .f32) (harg7 : arg7.IsWhole) (arg8 : Memref sig .tc .vmem S256x256 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S1x1x2048 .f32) (harg16 : arg16.IsWhole) (arg17 : Memref sig .tc .vmem S1x1x128 .f32) (harg17 : arg17.IsWhole) (arg18 : Memref sig .tc .vmem S1x1x128 .f32) (harg18 : arg18.IsWhole) (arg19 : Memref sig .tc .vmem S1x256x2048 .bf16) (harg19 : arg19.IsWhole) (arg20 : Memref sig .tc .vmem S1x256x2048 .bf16) (harg20 : arg20.IsWhole) (hc0 : ¬cond0_0 i) (hc1 : cond0_1 i)
    (x0 : Vec F S1x256x2048 .f32) (x1 : Vec F S1x256x512 .f32) (x2 : Vec F S1x256x512 .f32) (x3 : Vec F S1x256x2048 .f32) (x4 : Vec F S1x256x512 .f32) (x5 : Vec F S1x256x512 .f32) (x6 : Vec F S256x256 .f32) (x7 : Vec F S256x1 .f32) (x8 : Vec F S256x256 .f32) (x9 : Vec F S256x1 .f32) (x10 : Vec F S256x256 .f32) (x11 : Vec F S256x1 .f32) (x12 : Vec F S256x256 .f32) (x13 : Vec F S256x1 .f32) (xo15 : Vec F S1x1x128 .f32) (xo16 : Vec F S1x1x128 .f32) (y : S1x1x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo15 xo16).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo15 xo16).2.2.1 S1x1x128.size (by sl_kernel_rfl) y

/-- What case B leaves in output 16's staging buffer: its pieces read back over junk. -/
def out0_B_16 (c : Dev nD) (i : grid0.Coords) (arg2 : Memref sig .tc .vmem S1x256x2048 .f32) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x256x2048 .f32) (harg5 : arg5.IsWhole) (arg6 : Memref sig .tc .vmem S1x256x512 .f32) (harg6 : arg6.IsWhole) (arg7 : Memref sig .tc .vmem S1x256x512 .f32) (harg7 : arg7.IsWhole) (arg8 : Memref sig .tc .vmem S256x256 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S1x1x2048 .f32) (harg16 : arg16.IsWhole) (arg17 : Memref sig .tc .vmem S1x1x128 .f32) (harg17 : arg17.IsWhole) (arg18 : Memref sig .tc .vmem S1x1x128 .f32) (harg18 : arg18.IsWhole) (arg19 : Memref sig .tc .vmem S1x256x2048 .bf16) (harg19 : arg19.IsWhole) (arg20 : Memref sig .tc .vmem S1x256x2048 .bf16) (harg20 : arg20.IsWhole) (hc0 : ¬cond0_0 i) (hc1 : cond0_1 i)
    (x0 : Vec F S1x256x2048 .f32) (x1 : Vec F S1x256x512 .f32) (x2 : Vec F S1x256x512 .f32) (x3 : Vec F S1x256x2048 .f32) (x4 : Vec F S1x256x512 .f32) (x5 : Vec F S1x256x512 .f32) (x6 : Vec F S256x256 .f32) (x7 : Vec F S256x1 .f32) (x8 : Vec F S256x256 .f32) (x9 : Vec F S256x1 .f32) (x10 : Vec F S256x256 .f32) (x11 : Vec F S256x1 .f32) (x12 : Vec F S256x256 .f32) (x13 : Vec F S256x1 .f32) (xo15 : Vec F S1x1x128 .f32) (xo16 : Vec F S1x1x128 .f32) : Vec F S1x1x128 .f32 :=
  VO0_16.read (Elt F) (VO0_16.writes (Elt F) VO0_16.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo15 xo16).2.2.1)

/-- Case B's pieces for output 17 tile its block (1 store of `S1x256x2048`, checked by the kernel's evaluation: Lib/Ring.lean `Piece.tiledL`, linear in the pieces, through a loop's `@[irreducible]` trip theorem too), so they cover it. -/
theorem cover0_B_17 (c : Dev nD) (i : grid0.Coords) (arg2 : Memref sig .tc .vmem S1x256x2048 .f32) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x256x2048 .f32) (harg5 : arg5.IsWhole) (arg6 : Memref sig .tc .vmem S1x256x512 .f32) (harg6 : arg6.IsWhole) (arg7 : Memref sig .tc .vmem S1x256x512 .f32) (harg7 : arg7.IsWhole) (arg8 : Memref sig .tc .vmem S256x256 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S1x1x2048 .f32) (harg16 : arg16.IsWhole) (arg17 : Memref sig .tc .vmem S1x1x128 .f32) (harg17 : arg17.IsWhole) (arg18 : Memref sig .tc .vmem S1x1x128 .f32) (harg18 : arg18.IsWhole) (arg19 : Memref sig .tc .vmem S1x256x2048 .bf16) (harg19 : arg19.IsWhole) (arg20 : Memref sig .tc .vmem S1x256x2048 .bf16) (harg20 : arg20.IsWhole) (hc0 : ¬cond0_0 i) (hc1 : cond0_1 i)
    (x0 : Vec F S1x256x2048 .f32) (x1 : Vec F S1x256x512 .f32) (x2 : Vec F S1x256x512 .f32) (x3 : Vec F S1x256x2048 .f32) (x4 : Vec F S1x256x512 .f32) (x5 : Vec F S1x256x512 .f32) (x6 : Vec F S256x256 .f32) (x7 : Vec F S256x1 .f32) (x8 : Vec F S256x256 .f32) (x9 : Vec F S256x1 .f32) (x10 : Vec F S256x256 .f32) (x11 : Vec F S256x1 .f32) (x12 : Vec F S256x256 .f32) (x13 : Vec F S256x1 .f32) (xo15 : Vec F S1x1x128 .f32) (xo16 : Vec F S1x1x128 .f32) (y : S1x256x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo15 xo16).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo15 xo16).2.2.2.1 S1x256x2048.size (by sl_kernel_rfl) y

/-- What case B leaves in output 17's staging buffer: its pieces read back over junk. -/
def out0_B_17 (c : Dev nD) (i : grid0.Coords) (arg2 : Memref sig .tc .vmem S1x256x2048 .f32) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x256x2048 .f32) (harg5 : arg5.IsWhole) (arg6 : Memref sig .tc .vmem S1x256x512 .f32) (harg6 : arg6.IsWhole) (arg7 : Memref sig .tc .vmem S1x256x512 .f32) (harg7 : arg7.IsWhole) (arg8 : Memref sig .tc .vmem S256x256 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S1x1x2048 .f32) (harg16 : arg16.IsWhole) (arg17 : Memref sig .tc .vmem S1x1x128 .f32) (harg17 : arg17.IsWhole) (arg18 : Memref sig .tc .vmem S1x1x128 .f32) (harg18 : arg18.IsWhole) (arg19 : Memref sig .tc .vmem S1x256x2048 .bf16) (harg19 : arg19.IsWhole) (arg20 : Memref sig .tc .vmem S1x256x2048 .bf16) (harg20 : arg20.IsWhole) (hc0 : ¬cond0_0 i) (hc1 : cond0_1 i)
    (x0 : Vec F S1x256x2048 .f32) (x1 : Vec F S1x256x512 .f32) (x2 : Vec F S1x256x512 .f32) (x3 : Vec F S1x256x2048 .f32) (x4 : Vec F S1x256x512 .f32) (x5 : Vec F S1x256x512 .f32) (x6 : Vec F S256x256 .f32) (x7 : Vec F S256x1 .f32) (x8 : Vec F S256x256 .f32) (x9 : Vec F S256x1 .f32) (x10 : Vec F S256x256 .f32) (x11 : Vec F S256x1 .f32) (x12 : Vec F S256x256 .f32) (x13 : Vec F S256x1 .f32) (xo15 : Vec F S1x1x128 .f32) (xo16 : Vec F S1x1x128 .f32) : Vec F S1x256x2048 .bf16 :=
  VO0_17.read (Elt F) (VO0_17.writes (Elt F) VO0_17.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo15 xo16).2.2.2.1)

/-- Case B's pieces for output 18 tile its block (1 store of `S1x256x2048`, checked by the kernel's evaluation: Lib/Ring.lean `Piece.tiledL`, linear in the pieces, through a loop's `@[irreducible]` trip theorem too), so they cover it. -/
theorem cover0_B_18 (c : Dev nD) (i : grid0.Coords) (arg2 : Memref sig .tc .vmem S1x256x2048 .f32) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x256x2048 .f32) (harg5 : arg5.IsWhole) (arg6 : Memref sig .tc .vmem S1x256x512 .f32) (harg6 : arg6.IsWhole) (arg7 : Memref sig .tc .vmem S1x256x512 .f32) (harg7 : arg7.IsWhole) (arg8 : Memref sig .tc .vmem S256x256 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S1x1x2048 .f32) (harg16 : arg16.IsWhole) (arg17 : Memref sig .tc .vmem S1x1x128 .f32) (harg17 : arg17.IsWhole) (arg18 : Memref sig .tc .vmem S1x1x128 .f32) (harg18 : arg18.IsWhole) (arg19 : Memref sig .tc .vmem S1x256x2048 .bf16) (harg19 : arg19.IsWhole) (arg20 : Memref sig .tc .vmem S1x256x2048 .bf16) (harg20 : arg20.IsWhole) (hc0 : ¬cond0_0 i) (hc1 : cond0_1 i)
    (x0 : Vec F S1x256x2048 .f32) (x1 : Vec F S1x256x512 .f32) (x2 : Vec F S1x256x512 .f32) (x3 : Vec F S1x256x2048 .f32) (x4 : Vec F S1x256x512 .f32) (x5 : Vec F S1x256x512 .f32) (x6 : Vec F S256x256 .f32) (x7 : Vec F S256x1 .f32) (x8 : Vec F S256x256 .f32) (x9 : Vec F S256x1 .f32) (x10 : Vec F S256x256 .f32) (x11 : Vec F S256x1 .f32) (x12 : Vec F S256x256 .f32) (x13 : Vec F S256x1 .f32) (xo15 : Vec F S1x1x128 .f32) (xo16 : Vec F S1x1x128 .f32) (y : S1x256x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo15 xo16).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo15 xo16).2.2.2.2.1 S1x256x2048.size (by sl_kernel_rfl) y

/-- What case B leaves in output 18's staging buffer: its pieces read back over junk. -/
def out0_B_18 (c : Dev nD) (i : grid0.Coords) (arg2 : Memref sig .tc .vmem S1x256x2048 .f32) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x256x2048 .f32) (harg5 : arg5.IsWhole) (arg6 : Memref sig .tc .vmem S1x256x512 .f32) (harg6 : arg6.IsWhole) (arg7 : Memref sig .tc .vmem S1x256x512 .f32) (harg7 : arg7.IsWhole) (arg8 : Memref sig .tc .vmem S256x256 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S1x1x2048 .f32) (harg16 : arg16.IsWhole) (arg17 : Memref sig .tc .vmem S1x1x128 .f32) (harg17 : arg17.IsWhole) (arg18 : Memref sig .tc .vmem S1x1x128 .f32) (harg18 : arg18.IsWhole) (arg19 : Memref sig .tc .vmem S1x256x2048 .bf16) (harg19 : arg19.IsWhole) (arg20 : Memref sig .tc .vmem S1x256x2048 .bf16) (harg20 : arg20.IsWhole) (hc0 : ¬cond0_0 i) (hc1 : cond0_1 i)
    (x0 : Vec F S1x256x2048 .f32) (x1 : Vec F S1x256x512 .f32) (x2 : Vec F S1x256x512 .f32) (x3 : Vec F S1x256x2048 .f32) (x4 : Vec F S1x256x512 .f32) (x5 : Vec F S1x256x512 .f32) (x6 : Vec F S256x256 .f32) (x7 : Vec F S256x1 .f32) (x8 : Vec F S256x256 .f32) (x9 : Vec F S256x1 .f32) (x10 : Vec F S256x256 .f32) (x11 : Vec F S256x1 .f32) (x12 : Vec F S256x256 .f32) (x13 : Vec F S256x1 .f32) (xo15 : Vec F S1x1x128 .f32) (xo16 : Vec F S1x1x128 .f32) : Vec F S1x256x2048 .bf16 :=
  VO0_18.read (Elt F) (VO0_18.writes (Elt F) VO0_18.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo15 xo16).2.2.2.2.1)

/-! ## What the outputs hold after each point -/

end Regions

end Cert.KernelIdeal.Whole

end
-- ==== Proof.KernelIdeal.Region0.lean ====
module

public import proofs.«01_k».proof.Proof.KernelIdeal.Runs0
public import Idealize.ShloMosaic.Lib.Pipeline.TableIdle

@[expose] public section

-- membership in a rectangle of production extents (`View.cover_of_tiled`): the elaborator's structural look
-- recurses once per coordinate of the long axes
set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S1x1x2048 .f32 × Vec F S1x1x128 .f32 × Vec F S1x1x128 .f32 × Vec F S1x256x2048 .bf16 × Vec F S1x256x2048 .bf16
  | 0, hn => (out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩) (iblk0 V c 10 ⟨0, hn⟩) (iblk0 V c 11 ⟨0, hn⟩) (iblk0 V c 12 ⟨0, hn⟩) (iblk0 V c 13 ⟨0, hn⟩), out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩) (iblk0 V c 10 ⟨0, hn⟩) (iblk0 V c 11 ⟨0, hn⟩) (iblk0 V c 12 ⟨0, hn⟩) (iblk0 V c 13 ⟨0, hn⟩), out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩) (iblk0 V c 10 ⟨0, hn⟩) (iblk0 V c 11 ⟨0, hn⟩) (iblk0 V c 12 ⟨0, hn⟩) (iblk0 V c 13 ⟨0, hn⟩), out0_A_17 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩) (iblk0 V c 10 ⟨0, hn⟩) (iblk0 V c 11 ⟨0, hn⟩) (iblk0 V c 12 ⟨0, hn⟩) (iblk0 V c 13 ⟨0, hn⟩), out0_A_18 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩) (iblk0 V c 10 ⟨0, hn⟩) (iblk0 V c 11 ⟨0, hn⟩) (iblk0 V c 12 ⟨0, hn⟩) (iblk0 V c 13 ⟨0, hn⟩))
  | n + 1, hn =>
    if h0 : (n + 1) % 8 = 0 then
      if h1 : 1 ≤ (n + 1) % 8 then
        False.elim (by have hN : n + 1 < 64 := lt_of_lt_of_eq hn (show cfg0.N = 64 from N_0); omega)
      else
        (out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩), out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩), out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩), out0_A_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩), out0_A_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩))
    else
      if h1 : 1 ≤ (n + 1) % 8 then
        (out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩) (outsAt0 c n (Nat.lt_of_succ_lt hn)).2.1 (outsAt0 c n (Nat.lt_of_succ_lt hn)).2.2.1, out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩) (outsAt0 c n (Nat.lt_of_succ_lt hn)).2.1 (outsAt0 c n (Nat.lt_of_succ_lt hn)).2.2.1, out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩) (outsAt0 c n (Nat.lt_of_succ_lt hn)).2.1 (outsAt0 c n (Nat.lt_of_succ_lt hn)).2.2.1, out0_B_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩) (outsAt0 c n (Nat.lt_of_succ_lt hn)).2.1 (outsAt0 c n (Nat.lt_of_succ_lt hn)).2.2.1, out0_B_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (iblk0 V c 10 ⟨n + 1, hn⟩) (iblk0 V c 11 ⟨n + 1, hn⟩) (iblk0 V c 12 ⟨n + 1, hn⟩) (iblk0 V c 13 ⟨n + 1, hn⟩) (outsAt0 c n (Nat.lt_of_succ_lt hn)).2.1 (outsAt0 c n (Nat.lt_of_succ_lt hn)).2.2.1)
      else
        False.elim (by have hN : n + 1 < 64 := lt_of_lt_of_eq hn (show cfg0.N = 64 from N_0); omega)

/-- `outsAt0` at a point of case A: that case's contents. -/
theorem outsAt0_A (c : Dev nD) (t : Fin cfg0.N) (h0 : t.val % 8 = 0) (h1 : ¬1 ≤ t.val % 8) :
    outsAt0 V c t.val t.isLt = (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 8 = 0) (h1 : 1 ≤ t.val % 8) :
    outsAt0 V c t.val t.isLt = (out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (outsAt0 V c (t.val - 1) (Nat.lt_of_le_of_lt (Nat.sub_le _ _) t.isLt)).2.1 (outsAt0 V c (t.val - 1) (Nat.lt_of_le_of_lt (Nat.sub_le _ _) t.isLt)).2.2.1, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (outsAt0 V c (t.val - 1) (Nat.lt_of_le_of_lt (Nat.sub_le _ _) t.isLt)).2.1 (outsAt0 V c (t.val - 1) (Nat.lt_of_le_of_lt (Nat.sub_le _ _) t.isLt)).2.2.1, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (outsAt0 V c (t.val - 1) (Nat.lt_of_le_of_lt (Nat.sub_le _ _) t.isLt)).2.1 (outsAt0 V c (t.val - 1) (Nat.lt_of_le_of_lt (Nat.sub_le _ _) t.isLt)).2.2.1, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (outsAt0 V c (t.val - 1) (Nat.lt_of_le_of_lt (Nat.sub_le _ _) t.isLt)).2.1 (outsAt0 V c (t.val - 1) (Nat.lt_of_le_of_lt (Nat.sub_le _ _) t.isLt)).2.2.1, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (outsAt0 V c (t.val - 1) (Nat.lt_of_le_of_lt (Nat.sub_le _ _) t.isLt)).2.1 (outsAt0 V c (t.val - 1) (Nat.lt_of_le_of_lt (Nat.sub_le _ _) t.isLt)).2.2.1) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => (outsAt0 V c t.val t.isLt).1
    | ⟨15, _⟩ => (outsAt0 V c t.val t.isLt).2.1
    | ⟨16, _⟩ => (outsAt0 V c t.val t.isLt).2.2.1
    | ⟨17, _⟩ => (outsAt0 V c t.val t.isLt).2.2.2.1
    | ⟨18, _⟩ => (outsAt0 V c t.val t.isLt).2.2.2.2
    | ⟨_ + 19, h⟩ => absurd h (Nat.not_lt.2 (Nat.le_add_left _ _))
  Φ _ := Pipeline.ΦA spec0 c
  q w := Pipeline.shareOf spec0 w
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = (outsAt0 V c t.val t.isLt).1 := by dsimp only [dat0]
theorem after0_15 (c : Dev nD) (t : Fin cfg0.N) : (dat0 V c).after 15 t = (outsAt0 V c t.val t.isLt).2.1 := by dsimp only [dat0]
theorem after0_16 (c : Dev nD) (t : Fin cfg0.N) : (dat0 V c).after 16 t = (outsAt0 V c t.val t.isLt).2.2.1 := by dsimp only [dat0]
theorem after0_17 (c : Dev nD) (t : Fin cfg0.N) : (dat0 V c).after 17 t = (outsAt0 V c t.val t.isLt).2.2.2.1 := by dsimp only [dat0]
theorem after0_18 (c : Dev nD) (t : Fin cfg0.N) : (dat0 V c).after 18 t = (outsAt0 V c t.val t.isLt).2.2.2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d

/-- Output 15's contents CARRY through the points that leave it idle: at such a point, its buffer not fresh, the proof data's
    `after` is the point before's (the case there stores nothing into the window and its term says so; a case that stores
    into it is not idle there by `liveAt0_15_κ`) — the hypothesis of Lib/Pipeline/TableIdle.lean `Dat.before_out_traj`. -/
theorem hcarry0_15 (c : Dev nD) : ∀ (t : Fin cfg0.N) (_ : t.val ≠ 0), cfg0.idle 15 (grid0.coords t) = true → cfg0.fresh 15 t.val = false →
    (dat0 V c).after 15 t = (dat0 V c).after 15 ⟨t.val - 1, by omega⟩ := by
  intro t _ hi _
  have hN : t.val < 64 := lt_of_lt_of_eq t.isLt (show cfg0.N = 64 from N_0)
  rw [after0_15, after0_15]
  by_cases h0 : t.val % 8 = 0
  · by_cases h1 : 1 ≤ t.val % 8
    · exfalso; omega
    · rw [liveAt0_15_A t ((hcond0_0 t).mpr h0) (fun h => h1 ((hcond0_1 t).mp h))] at hi
      exact absurd hi Bool.false_ne_true
  · by_cases h1 : 1 ≤ t.val % 8
    · rw [liveAt0_15_B t (fun h => h0 ((hcond0_0 t).mp h)) ((hcond0_1 t).mpr h1)] at hi
      exact absurd hi Bool.false_ne_true
    · exfalso; omega

/-- Output 16's contents CARRY through the points that leave it idle: at such a point, its buffer not fresh, the proof data's
    `after` is the point before's (the case there stores nothing into the window and its term says so; a case that stores
    into it is not idle there by `liveAt0_16_κ`) — the hypothesis of Lib/Pipeline/TableIdle.lean `Dat.before_out_traj`. -/
theorem hcarry0_16 (c : Dev nD) : ∀ (t : Fin cfg0.N) (_ : t.val ≠ 0), cfg0.idle 16 (grid0.coords t) = true → cfg0.fresh 16 t.val = false →
    (dat0 V c).after 16 t = (dat0 V c).after 16 ⟨t.val - 1, by omega⟩ := by
  intro t _ hi _
  have hN : t.val < 64 := lt_of_lt_of_eq t.isLt (show cfg0.N = 64 from N_0)
  rw [after0_16, after0_16]
  by_cases h0 : t.val % 8 = 0
  · by_cases h1 : 1 ≤ t.val % 8
    · exfalso; omega
    · rw [liveAt0_16_A t ((hcond0_0 t).mpr h0) (fun h => h1 ((hcond0_1 t).mp h))] at hi
      exact absurd hi Bool.false_ne_true
  · by_cases h1 : 1 ≤ t.val % 8
    · rw [liveAt0_16_B t (fun h => h0 ((hcond0_0 t).mp h)) ((hcond0_1 t).mpr h1)] at hi
      exact absurd hi Bool.false_ne_true
    · exfalso; omega
/-- At a point of case B output 15's current staging buffer holds what the point before left: the buffer is not fresh
    there (`notFresh0_15_B`: stored into since the region's entry or the last write-back, carried through the points that
    leave it idle by `hcarry0_15`; Lib/Pipeline/TableIdle.lean `Dat.before_out_traj`). -/
theorem before0_15_B (c : Dev nD) (t : Fin cfg0.N) (h0 : ¬t.val % 8 = 0) (h1 : 1 ≤ t.val % 8) (d) :
    (dat0 V c).before 15 t d = (outsAt0 V c (t.val - 1) (Nat.lt_of_le_of_lt (Nat.sub_le _ _) t.isLt)).2.1 := by
  rw [Dat.before_out_traj _ 15 rfl (fun _ _ => rfl) (hcarry0_15 V c) t.val t rfl d,
    if_neg (by rw [notFresh0_15_B t (fun h => h0 ((hcond0_0 t).mp h)) ((hcond0_1 t).mpr h1)]; exact Bool.false_ne_true)]
  dsimp only [dat0]
/-- At a point of case B output 16's current staging buffer holds what the point before left: the buffer is not fresh
    there (`notFresh0_16_B`: stored into since the region's entry or the last write-back, carried through the points that
    leave it idle by `hcarry0_16`; Lib/Pipeline/TableIdle.lean `Dat.before_out_traj`). -/
theorem before0_16_B (c : Dev nD) (t : Fin cfg0.N) (h0 : ¬t.val % 8 = 0) (h1 : 1 ≤ t.val % 8) (d) :
    (dat0 V c).before 16 t d = (outsAt0 V c (t.val - 1) (Nat.lt_of_le_of_lt (Nat.sub_le _ _) t.isLt)).2.2.1 := by
  rw [Dat.before_out_traj _ 16 rfl (fun _ _ => rfl) (hcarry0_16 V c) t.val t rfl d,
    if_neg (by rw [notFresh0_16_B t (fun h => h0 ((hcond0_0 t).mp h)) ((hcond0_1 t).mpr h1)]; exact Bool.false_ne_true)]
  dsimp only [dat0]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d))
    ∗ (∃ d, owns (c : Thread nD τ) (ms0_13 t) fullShare ((dat0 V c).before 13 t d))
    ∗ (∃ d, owns (c : Thread nD τ) (ms0_14 t) fullShare ((dat0 V c).before 14 t d))
    ∗ (∃ d, owns (c : Thread nD τ) (ms0_15 t) fullShare ((dat0 V c).before 15 t d))
    ∗ (∃ d, owns (c : Thread nD τ) (ms0_16 t) fullShare ((dat0 V c).before 16 t d))
    ∗ (∃ d, owns (c : Thread nD τ) (ms0_17 t) fullShare ((dat0 V c).before 17 t d))
    ∗ (∃ d, owns (c : Thread nD τ) (ms0_18 t) fullShare ((dat0 V c).before 18 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t
    ∗ (dat0 V c).leavesExact 12 t
    ∗ (dat0 V c).leavesExact 13 t
    ∗ (dat0 V c).leavesExact 14 t
    ∗ (dat0 V c).leavesExact 15 t
    ∗ (dat0 V c).leavesExact 16 t
    ∗ (dat0 V c).leavesExact 17 t
    ∗ (dat0 V c).leavesExact 18 t)

set_option maxHeartbeats 3200000 in
/-- The body at any point: the inputs' memrefs hold their blocks (`before0_W`); the closed forms say which case the point is in (`by_cases`), an output the case reads before covering holds what the point before left (`before0_W_κ`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13]
  rw [show (dat0 V c).Φ t.succ = (dat0 V c).Φ t.castSucc from rfl,
    show (dat0 V c).owesAt () t.succ = (dat0 V c).owesAt () t.castSucc from rfl]
  have hN : t.val < 64 := lt_of_lt_of_eq t.isLt (show cfg0.N = 64 from N_0)
  by_cases h0 : t.val % 8 = 0
  · by_cases h1 : 1 ≤ t.val % 8
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6 t], after0_6]
      rw [show (dat0 V c).leavesExact 7 t = owns (c : Thread nD τ) (ms0_7 t) fullShare ((dat0 V c).after 7 t) from by
      unfold Dat.leavesExact; rw [liveAt0_7 t], after0_7]
      rw [show (dat0 V c).leavesExact 8 t = owns (c : Thread nD τ) (ms0_8 t) fullShare ((dat0 V c).after 8 t) from by
      unfold Dat.leavesExact; rw [liveAt0_8 t], after0_8]
      rw [show (dat0 V c).leavesExact 9 t = owns (c : Thread nD τ) (ms0_9 t) fullShare ((dat0 V c).after 9 t) from by
      unfold Dat.leavesExact; rw [liveAt0_9 t], after0_9]
      rw [show (dat0 V c).leavesExact 10 t = owns (c : Thread nD τ) (ms0_10 t) fullShare ((dat0 V c).after 10 t) from by
      unfold Dat.leavesExact; rw [liveAt0_10 t], after0_10]
      rw [show (dat0 V c).leavesExact 11 t = owns (c : Thread nD τ) (ms0_11 t) fullShare ((dat0 V c).after 11 t) from by
      unfold Dat.leavesExact; rw [liveAt0_11 t], after0_11]
      rw [show (dat0 V c).leavesExact 12 t = owns (c : Thread nD τ) (ms0_12 t) fullShare ((dat0 V c).after 12 t) from by
      unfold Dat.leavesExact; rw [liveAt0_12 t], after0_12]
      rw [show (dat0 V c).leavesExact 13 t = owns (c : Thread nD τ) (ms0_13 t) fullShare ((dat0 V c).after 13 t) from by
      unfold Dat.leavesExact; rw [liveAt0_13 t], after0_13]
      rw [show (dat0 V c).leavesExact 14 t = owns (c : Thread nD τ) (ms0_14 t) fullShare ((dat0 V c).after 14 t) from by
      unfold Dat.leavesExact; rw [liveAt0_14 t], after0_14]
      rw [show (dat0 V c).leavesExact 15 t = owns (c : Thread nD τ) (ms0_15 t) fullShare ((dat0 V c).after 15 t) from by
      unfold Dat.leavesExact; rw [liveAt0_15_A t ((hcond0_0 t).mpr h0) (fun h => h1 ((hcond0_1 t).mp h))], after0_15]
      rw [show (dat0 V c).leavesExact 16 t = owns (c : Thread nD τ) (ms0_16 t) fullShare ((dat0 V c).after 16 t) from by
      unfold Dat.leavesExact; rw [liveAt0_16_A t ((hcond0_0 t).mpr h0) (fun h => h1 ((hcond0_1 t).mp h))], after0_16]
      rw [show (dat0 V c).leavesExact 17 t = owns (c : Thread nD τ) (ms0_17 t) fullShare ((dat0 V c).after 17 t) from by
      unfold Dat.leavesExact; rw [liveAt0_17 t], after0_17]
      rw [show (dat0 V c).leavesExact 18 t = owns (c : Thread nD τ) (ms0_18 t) fullShare ((dat0 V c).after 18 t) from by
      unfold Dat.leavesExact; rw [liveAt0_18 t], after0_18]
      rw [outsAt0_A V c t h0 h1]
      unfold out0_A_14 out0_A_15 out0_A_16 out0_A_17 out0_A_18; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun0_A c (grid0.coords t) _ _ _ _ _ _ _ _ _ _ _ _ _ _ _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      iintro ⟨H0, H1, H2, H3, H4, H5, H6, H7, H8, H9, H10, H11, H12, H13, ⟨%e14, H14⟩, ⟨%e15, H15⟩, ⟨%e16, H16⟩, ⟨%e17, H17⟩, ⟨%e18, H18⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H18
      ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _)
  · by_cases h1 : 1 ≤ t.val % 8
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6 t], after0_6]
      rw [show (dat0 V c).leavesExact 7 t = owns (c : Thread nD τ) (ms0_7 t) fullShare ((dat0 V c).after 7 t) from by
      unfold Dat.leavesExact; rw [liveAt0_7 t], after0_7]
      rw [show (dat0 V c).leavesExact 8 t = owns (c : Thread nD τ) (ms0_8 t) fullShare ((dat0 V c).after 8 t) from by
      unfold Dat.leavesExact; rw [liveAt0_8 t], after0_8]
      rw [show (dat0 V c).leavesExact 9 t = owns (c : Thread nD τ) (ms0_9 t) fullShare ((dat0 V c).after 9 t) from by
      unfold Dat.leavesExact; rw [liveAt0_9 t], after0_9]
      rw [show (dat0 V c).leavesExact 10 t = owns (c : Thread nD τ) (ms0_10 t) fullShare ((dat0 V c).after 10 t) from by
      unfold Dat.leavesExact; rw [liveAt0_10 t], after0_10]
      rw [show (dat0 V c).leavesExact 11 t = owns (c : Thread nD τ) (ms0_11 t) fullShare ((dat0 V c).after 11 t) from by
      unfold Dat.leavesExact; rw [liveAt0_11 t], after0_11]
      rw [show (dat0 V c).leavesExact 12 t = owns (c : Thread nD τ) (ms0_12 t) fullShare ((dat0 V c).after 12 t) from by
      unfold Dat.leavesExact; rw [liveAt0_12 t], after0_12]
      rw [show (dat0 V c).leavesExact 13 t = owns (c : Thread nD τ) (ms0_13 t) fullShare ((dat0 V c).after 13 t) from by
      unfold Dat.leavesExact; rw [liveAt0_13 t], after0_13]
      rw [show (dat0 V c).leavesExact 14 t = owns (c : Thread nD τ) (ms0_14 t) fullShare ((dat0 V c).after 14 t) from by
      unfold Dat.leavesExact; rw [liveAt0_14 t], after0_14]
      rw [show (dat0 V c).leavesExact 15 t = owns (c : Thread nD τ) (ms0_15 t) fullShare ((dat0 V c).after 15 t) from by
      unfold Dat.leavesExact; rw [liveAt0_15_B t (fun h => h0 ((hcond0_0 t).mp h)) ((hcond0_1 t).mpr h1)], after0_15]
      rw [show (dat0 V c).leavesExact 16 t = owns (c : Thread nD τ) (ms0_16 t) fullShare ((dat0 V c).after 16 t) from by
      unfold Dat.leavesExact; rw [liveAt0_16_B t (fun h => h0 ((hcond0_0 t).mp h)) ((hcond0_1 t).mpr h1)], after0_16]
      rw [show (dat0 V c).leavesExact 17 t = owns (c : Thread nD τ) (ms0_17 t) fullShare ((dat0 V c).after 17 t) from by
      unfold Dat.leavesExact; rw [liveAt0_17 t], after0_17]
      rw [show (dat0 V c).leavesExact 18 t = owns (c : Thread nD τ) (ms0_18 t) fullShare ((dat0 V c).after 18 t) from by
      unfold Dat.leavesExact; rw [liveAt0_18 t], after0_18]
      rw [outsAt0_B V c t h0 h1]
      simp only [before0_15_B V c t h0 h1, before0_16_B V c t h0 h1]
      unfold out0_B_14 out0_B_15 out0_B_16 out0_B_17 out0_B_18; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun0_B c (grid0.coords t) _ _ _ _ _ _ _ _ _ _ _ _ _ _ _ _ _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexact H15
      isplitl [H16]; · iexact H16
      isplitl [H17]; · iexists _; iexact H17
      isplitl [H18]; · iexists _; iexact H18
      iintro ⟨H0, H1, H2, H3, H4, H5, H6, H7, H8, H9, H10, H11, H12, H13, ⟨%e14, H14⟩, ⟨%e15, H15⟩, ⟨%e16, H16⟩, ⟨%e17, H17⟩, ⟨%e18, H18⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H18
      ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _)
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Whole

end
-- ==== Proof.KernelIdeal.Region1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_psf_blend` (pipeline 1), at the entry contents `V` — class R -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 5, through which its contents are stated (`View.read_writes_of_cover`: the
    choice does not matter). -/
abbrev VO1_5 : View sig .tc .vmem S1x256x2048 .f32 := (Memref.whole cc1_stg5_0 : Memref sig .tc .vmem S1x256x2048 .f32).view
/-- Each window's current staging memref at point `t`, spelled as the pipeline passes it (`bodyAt1`), and its wholeness. -/
abbrev ms1_0 (t : Fin cfg1.N) : Memref sig .tc .vmem S1x1x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x2048 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .smem S8 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .smem S8 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256x2048 .f32 := win1_5.stage (cfg1.slots t 5)
abbrev hs1_5 (t : Fin cfg1.N) : (ms1_5 t).IsWhole := hstage1_5 ((cfg1.slots t 5).cast nbuf1_5)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg2 : Memref sig .tc .vmem S1x1x2048 .f32) (harg2 : arg2.IsWhole) (arg3 : Memref sig .tc .vmem S1x256x2048 .bf16) (harg3 : arg3.IsWhole) (arg4 : Memref sig .tc .vmem S1x256x2048 .bf16) (harg4 : arg4.IsWhole) (arg5 : Memref sig .tc .smem S8 .f32) (harg5 : arg5.IsWhole) (arg6 : Memref sig .tc .smem S8 .f32) (harg6 : arg6.IsWhole) (arg7 : Memref sig .tc .vmem S1x256x2048 .f32) (harg7 : arg7.IsWhole)
    (x0 : Vec F S1x1x2048 .f32) (x1 : Vec F S1x256x2048 .bf16) (x2 : Vec F S1x256x2048 .bf16) (x3 : Vec F S8 .f32) (x4 : Vec F S8 .f32) :
    { L5 : List (View.Piece (Elt F) S1x256x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc1_psf_blend i arg2 harg2 arg3 harg3 arg4 harg4 arg5 harg5 arg6 harg6 arg7 harg7) K } := by
  refine ⟨?_, fun E K => ?run⟩
  case run =>
    simp only [cc1_psf_blend_eq_skeleton]; unfold cc1_psf_blend_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

/-- The run's pieces for output 5 tile its block (1 store of `S1x256x2048`, checked by the kernel's evaluation: Lib/Ring.lean `Piece.tiledL`, linear in the pieces, through a loop's `@[irreducible]` trip theorem too), so they cover it. -/
theorem cover1_A_5 (c : Dev nD) (i : grid1.Coords) (arg2 : Memref sig .tc .vmem S1x1x2048 .f32) (harg2 : arg2.IsWhole) (arg3 : Memref sig .tc .vmem S1x256x2048 .bf16) (harg3 : arg3.IsWhole) (arg4 : Memref sig .tc .vmem S1x256x2048 .bf16) (harg4 : arg4.IsWhole) (arg5 : Memref sig .tc .smem S8 .f32) (harg5 : arg5.IsWhole) (arg6 : Memref sig .tc .smem S8 .f32) (harg6 : arg6.IsWhole) (arg7 : Memref sig .tc .vmem S1x256x2048 .f32) (harg7 : arg7.IsWhole)
    (x0 : Vec F S1x1x2048 .f32) (x1 : Vec F S1x256x2048 .bf16) (x2 : Vec F S1x256x2048 .bf16) (x3 : Vec F S8 .f32) (x4 : Vec F S8 .f32) (y : S1x256x2048.Idx) :
    ∃ pc ∈ (kernelRun1_A c i arg2 harg2 arg3 harg3 arg4 harg4 arg5 harg5 arg6 harg6 arg7 harg7 x0 x1 x2 x3 x4).1, y ∈ pc.1.set :=
  View.cover_of_tiledL (kernelRun1_A c i arg2 harg2 arg3 harg3 arg4 harg4 arg5 harg5 arg6 harg6 arg7 harg7 x0 x1 x2 x3 x4).1 S1x256x2048.size (by sl_kernel_rfl) y

/-- What the run leaves in output 5's staging buffer: its pieces read back over junk. -/
def out1_A_5 (c : Dev nD) (i : grid1.Coords) (arg2 : Memref sig .tc .vmem S1x1x2048 .f32) (harg2 : arg2.IsWhole) (arg3 : Memref sig .tc .vmem S1x256x2048 .bf16) (harg3 : arg3.IsWhole) (arg4 : Memref sig .tc .vmem S1x256x2048 .bf16) (harg4 : arg4.IsWhole) (arg5 : Memref sig .tc .smem S8 .f32) (harg5 : arg5.IsWhole) (arg6 : Memref sig .tc .smem S8 .f32) (harg6 : arg6.IsWhole) (arg7 : Memref sig .tc .vmem S1x256x2048 .f32) (harg7 : arg7.IsWhole)
    (x0 : Vec F S1x1x2048 .f32) (x1 : Vec F S1x256x2048 .bf16) (x2 : Vec F S1x256x2048 .bf16) (x3 : Vec F S8 .f32) (x4 : Vec F S8 .f32) : Vec F S1x256x2048 .f32 :=
  VO1_5.read (Elt F) (VO1_5.writes (Elt F) VO1_5.junk (kernelRun1_A c i arg2 harg2 arg3 harg3 arg4 harg4 arg5 harg5 arg6 harg6 arg7 harg7 x0 x1 x2 x3 x4).1)

/-! ## What the outputs hold after each point -/

/-- What the outputs' staging buffers hold after the body at point `t`: the run's contents at
    the point's memrefs and input blocks. -/
def outsAt1 (c : Dev nD) (t : Fin cfg1.N) : Vec F S1x256x2048 .f32 :=
  out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) (iblk1 V c 3 t) (iblk1 V c 4 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold outsAt1
  unfold out1_A_5
  iintro ⟨HΦ, Ho, ⟨%d0, H0⟩, ⟨%d1, H1⟩, ⟨%d2, H2⟩, ⟨%d3, H3⟩, ⟨%d4, H4⟩, ⟨%d5, H5⟩⟩
  iapply ((kernelRun1_A c (grid1.coords t) _ _ _ _ _ _ _ _ _ _ _ _ (iblk1 V c 0 t) (iblk1 V c 1 t) (iblk1 V c 2 t) (iblk1 V c 3 t) (iblk1 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_A_5 c _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Whole

end
-- ==== Proof.KernelIdeal.Hosts0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v7, main_v8, main_v9, main_v10, main_v11, main_cst, main_v12, main_v13]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v15]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

end Cert.KernelIdeal.Whole

end
-- ==== Proof.KernelIdeal.Fold0.lean ====
module

public import proofs.«01_k».proof.Proof.KernelIdeal.Region0
public import proofs.«01_k».proof.Proof.KernelIdeal.Region1
public import proofs.«01_k».proof.Proof.KernelIdeal.Hosts0

@[expose] public section

-- membership in a rectangle of production extents (`View.cover_of_tiled`): the elaborator's structural look
-- recurses once per coordinate of the long axes
set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact (dat0 (V1 m ρ) c).withArrays_arrAt launch₀0.sharedIn _ (A_eq0 (V1 m ρ) c) w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays_shared`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)
theorem W5_main_arg6 (c : Dev nD) : W5 m ρ c (Proc.devRef .tc main_arg6) = m ((c : Thread nD τ).loc main_arg6) :=
  W5_args m ρ c main_arg6 (by decide)
theorem W5_main_arg7 (c : Dev nD) : W5 m ρ c (Proc.devRef .tc main_arg7) = m ((c : Thread nD τ).loc main_arg7) :=
  W5_args m ρ c main_arg7 (by decide)
theorem W5_main_arg8 (c : Dev nD) : W5 m ρ c (Proc.devRef .tc main_arg8) = m ((c : Thread nD τ).loc main_arg8) :=
  W5_args m ρ c main_arg8 (by decide)
theorem W5_main_arg9 (c : Dev nD) : W5 m ρ c (Proc.devRef .tc main_arg9) = m ((c : Thread nD τ).loc main_arg9) :=
  W5_args m ρ c main_arg9 (by decide)
theorem W5_main_arg10 (c : Dev nD) : W5 m ρ c (Proc.devRef .tc main_arg10) = m ((c : Thread nD τ).loc main_arg10) :=
  W5_args m ρ c main_arg10 (by decide)
end Cert.KernelIdeal.Whole

end
-- ==== Proof.KernelIdeal.State.lean ====
module

public import proofs.«01_k».proof.Proof.KernelIdeal.Fold0

@[expose] public section

-- membership in a rectangle of production extents (`View.cover_of_tiled`): the elaborator's structural look
-- recurses once per coordinate of the long axes
set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

end Cert.KernelIdeal.Whole

end
-- ==== Proof.KernelIdeal.Record0.lean ====
module

public import proofs.«01_k».proof.Proof.KernelIdeal.State

@[expose] public section

-- membership in a rectangle of production extents (`View.cover_of_tiled`): the elaborator's structural look
-- recurses once per coordinate of the long axes
set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs_shared`) and put back at the exit contents (`unscopedBufs_of_arrays_shared`; its input windows on one array (`launch₀0.sharedIn`) each dealt their share of it, `Pipeline.shareOf`, by the proof data); the generator register into the
    class invariant `ΦA` and out; nothing owed; no semaphore of the kernel's own. -/
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.KernelIdeal.Record1.lean ====
module

public import proofs.«01_k».proof.Proof.KernelIdeal.State

@[expose] public section

-- membership in a rectangle of production extents (`View.cover_of_tiled`): the elaborator's structural look
-- recurses once per coordinate of the long axes
set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.KernelIdeal.Launched.lean ====
module

public import proofs.«01_k».proof.Proof.KernelIdeal.Record0
public import proofs.«01_k».proof.Proof.KernelIdeal.Record1

@[expose] public section

-- membership in a rectangle of production extents (`View.cover_of_tiled`): the elaborator's structural look
-- recurses once per coordinate of the long axes
set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole run: from any memory with zero counters, every weakly fair execution of @main on the TensorCores
    terminates without a fault, and every final state has each unscoped buffer of a device as the last stage of the fold
    leaves it and every counter at zero. -/
theorem run_ends : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: every execution ends with the argument arrays as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c),
       (h.1 c _ (mem_uc main_arg5 (by decide))).trans (W5_main_arg5 m ρ c),
       (h.1 c _ (mem_uc main_arg6 (by decide))).trans (W5_main_arg6 m ρ c),
       (h.1 c _ (mem_uc main_arg7 (by decide))).trans (W5_main_arg7 m ρ c),
       (h.1 c _ (mem_uc main_arg8 (by decide))).trans (W5_main_arg8 m ρ c),
       (h.1 c _ (mem_uc main_arg9 (by decide))).trans (W5_main_arg9 m ρ c),
       (h.1 c _ (mem_uc main_arg10 (by decide))).trans (W5_main_arg10 m ρ c)⟩, h.2⟩) (run_ends m ρ)

end Cert.KernelIdeal.Whole

end
-- ==== Proof.Value.Spec.lean ====
module

public import Idealize.ShloMosaic.Lib.Pointwise
public import Idealize.ShloMosaic.Lib.IdealHost
public import Idealize.ShloMosaic.PureOps.Ideal

/-!
The result in the problem's own terms. A plane is one channel of one image with three rows and columns of zeros around
it, as a function of the padded row and column; the box filter adds seven by seven of its entries.
-/

@[expose] public section

set_option maxRecDepth 16384

noncomputable section

namespace Cert.Blend

open Idealize.ShloMosaic Idealize.ShloMosaic.Pointwise

/-- One padded channel. -/
abbrev Plane := ℕ → ℕ → EReal

/-- The box filter at an image position. -/
def box (f : Plane) (i j : ℕ) : EReal := ∑ b ∈ Finset.range 7, ∑ a ∈ Finset.range 7, f (i + a) (j + b)

/-- The small number added to a deviation. -/
def eps : EReal := Ideal.ofBits .f32 0x322BCC77#32

/-- The window's mean. -/
def mean (f : Plane) (i j : ℕ) : EReal := box f i j * ((1 / 49 : ℝ) : EReal)

/-- The window's deviation. -/
def dev (f : Plane) (i j : ℕ) : EReal :=
  Ideal.sqrt (max ((box (fun h k => f h k * f h k) i j - 49 * mean f i j * mean f i j) * ((1 / 48 : ℝ) : EReal)) 0)

/-- The entry at an image position, normalized over its window. -/
def nrm (f : Plane) (i j : ℕ) : EReal := Ideal.div (f (i + 3) (j + 3) - mean f i j) (dev f i j + eps)

/-- One output channel of a one-by-one convolution. -/
def conv (w : Fin 256 → Fin 256 → EReal) (b : Fin 256 → EReal) (g : Fin 256 → EReal) (o : Fin 256) : EReal :=
  (∑ k : Fin 256, w o k * g k) + b o

/-- The cosine of two vectors. -/
def sim (x y : Fin 256 → EReal) : EReal :=
  Ideal.div (∑ k : Fin 256, x k * y k)
    (Ideal.sqrt (∑ k : Fin 256, x k * x k) * Ideal.sqrt (∑ k : Fin 256, y k * y k))

/-- What one image position is computed from: the two images' channels and the four convolutions. -/
structure Data where
  front : Fin 256 → Plane
  back : Fin 256 → Plane
  we : Fin 256 → Fin 256 → EReal
  be : Fin 256 → EReal
  wf : Fin 256 → Fin 256 → EReal
  bf : Fin 256 → EReal
  wg : Fin 256 → Fin 256 → EReal
  bg : Fin 256 → EReal
  wh : Fin 256 → Fin 256 → EReal
  bh : Fin 256 → EReal

namespace Data

variable (D : Data) (i j : ℕ)

def FF : Fin 256 → EReal := conv D.wf D.bf (fun k => nrm (D.front k) i j)
def GG : Fin 256 → EReal := conv D.wg D.bg (fun k => nrm (D.back k) i j)
def HH : Fin 256 → EReal := conv D.wh D.bh (fun k => D.back k (i + 3) (j + 3))
def EE : Fin 256 → EReal :=
  conv D.we D.be (fun k => nrm (D.front k) i j * dev (D.back k) i j + mean (D.back k) i j)
/-- The similarity of the two images at a position. -/
def S : EReal := sim (D.FF i j) (D.GG i j)

end Data

/-- A plane is zero on its padding. -/
structure Padded (P : Plane) : Prop where
  rows : ∀ h j, (h < 3 ∨ 131 ≤ h) → P h j = 0
  cols : ∀ h j, (j < 3 ∨ 131 ≤ j) → P h j = 0

/-- One channel of a sample, padded. -/
def plane (x : (⟨4, ![8, 256, 128, 128]⟩ : Shape).Idx → EReal) (b : Fin 8) (k : Fin 256) : Plane := fun h j =>
  if e : (3 ≤ h ∧ h < 131) ∧ (3 ≤ j ∧ j < 131) then x (ix4 b k ⟨h - 3, by omega⟩ ⟨j - 3, by omega⟩) else 0

/-- A sample's channel is zero on its padding. -/
theorem plane_padded (x : (⟨4, ![8, 256, 128, 128]⟩ : Shape).Idx → EReal) (b : Fin 8) (k : Fin 256) :
    Padded (plane x b k) :=
  ⟨fun h j e => dif_neg (by omega), fun h j e => dif_neg (by omega)⟩

/-- A plane inside its padding. -/
theorem plane_in (x : (⟨4, ![8, 256, 128, 128]⟩ : Shape).Idx → EReal) (b : Fin 8) (k : Fin 256) (i j : Fin 128)
    (h l : ℕ) (hh : h = i + 3) (hl : l = j + 3) : plane x b k h l = x (ix4 b k i j) := by
  subst hh hl
  have e : (3 ≤ i.val + 3 ∧ i.val + 3 < 131) ∧ (3 ≤ j.val + 3 ∧ j.val + 3 < 131) := by omega
  exact dif_pos e

/-- A sample's data, of the arrays. -/
def data (f g : (⟨4, ![8, 256, 128, 128]⟩ : Shape).Idx → EReal)
    (we : (⟨2, ![256, 256]⟩ : Shape).Idx → EReal) (be : (⟨1, ![256]⟩ : Shape).Idx → EReal)
    (wf : (⟨2, ![256, 256]⟩ : Shape).Idx → EReal) (bf : (⟨1, ![256]⟩ : Shape).Idx → EReal)
    (wg : (⟨2, ![256, 256]⟩ : Shape).Idx → EReal) (bg : (⟨1, ![256]⟩ : Shape).Idx → EReal)
    (wh : (⟨2, ![256, 256]⟩ : Shape).Idx → EReal) (bh : (⟨1, ![256]⟩ : Shape).Idx → EReal) (b : Fin 8) : Data where
  front := plane f b
  back := plane g b
  we o k := we (ix2 o k)
  be o := be (ix1 o)
  wf o k := wf (ix2 o k)
  bf o := bf (ix1 o)
  wg o k := wg (ix2 o k)
  bg o := bg (ix1 o)
  wh o k := wh (ix2 o k)
  bh o := bh (ix1 o)

end Cert.Blend

end
-- ==== Proof.Value.Window.lean ====
module

public import proofs.«01_k».proof.Proof.Gen.ReferenceIdeal.Run
public import proofs.«01_k».proof.Proof.Value.Spec

/-!
The reference's window sums, statistics and convolutions at an index.
-/

@[expose] public section

set_option maxRecDepth 16384

noncomputable section

namespace Cert.ReferenceIdeal.Value

open Idealize.ShloMosaic Idealize.ShloMosaic.TcCoe Idealize.ShloMosaic.Pointwise
open Idealize.SL.Sem
open Cert.ReferenceIdeal Cert.ReferenceIdeal.Gen Cert.Blend

/-- A left fold that only adds is the start plus the sum. -/
theorem foldl_add_sum {ι : Type} (g : ι → EReal) (l : List ι) (v : EReal) :
    l.foldl (fun r n => r + g n) v = v + (l.map g).sum := by
  induction l generalizing v with
  | nil => simp
  | cons a l ih => rw [List.foldl_cons, ih, List.map_cons, List.sum_cons, add_assoc]

/-- A number repeated over an image. -/
def every (w : BitVec 32) : FVec Ideal S8x256x128x128 .f32 :=
  broadcastInDim S8x256x128x128 ![] bcast_S_S8x256x128x128 (constant S_ .f32 w)

/-- The window sums of an image batch. -/
def boxOf (x : FVec Ideal S8x256x128x128 .f32) : FVec Ideal S8x256x128x128 .f32 :=
  Host.reduceWindowAdd ![1, 1, 7, 7] ![1, 1, 1, 1] ![0, 0, 3, 3] ![0, 0, 3, 3] x (broadcastInDim S_ ![] bcast_S_S_ (constant S_ .f32 0x00000000#32)) reduceWindows_S8x256x128x128_S8x256x128x128_w1s1p0_0_w1s1p0_0_w7s1p3_3_w7s1p3_3 h_S_

/-- A window sum is the box filter of the padded plane. -/
theorem boxOf_apply (x : FVec Ideal S8x256x128x128 .f32) (b : Fin 8) (k : Fin 256) (i j : Fin 128) :
    boxOf x (ix4 b k i j) = box (plane x b k) i j := by
  show Host.reduceWindow (s := S8x256x128x128) (· + ·) ![1, 1, 7, 7] ![1, 1, 1, 1] ![0, 0, 3, 3] ![0, 0, 3, 3] x
    (fun _ : S_.Idx => Ideal.ofBits .f32 0x00000000#32) reduceWindows_S8x256x128x128_S8x256x128x128_w1s1p0_0_w1s1p0_0_w7s1p3_3_w7s1p3_3 h_S_ (ix4 b k i j) = _
  rw [Ideal.ofBits_zero_f32]
  unfold Host.reduceWindow
  refine (foldl_add_sum _ _ _).trans ?_
  rw [zero_add, ← Fin.sum_univ_def]
  refine (Fintype.sum_equiv (⟨4, ![1, 1, 7, 7]⟩ : Shape).rowMajor.symm _ (fun q : (⟨4, ![1, 1, 7, 7]⟩ : Shape).Idx =>
    plane x b k (i.val + (q 2).val) (j.val + (q 3).val)) fun n => ?_).trans ?_
  · obtain ⟨q, hq⟩ : ∃ q : (⟨4, ![1, 1, 7, 7]⟩ : Shape).Idx, q = (⟨4, ![1, 1, 7, 7]⟩ : Shape).rowMajor.symm n := ⟨_, rfl⟩
    simp only [← hq]
    have h0 : (q 0).val < 1 := (q 0).isLt
    have h1 : (q 1).val < 1 := (q 1).isLt
    have h2 : (q 2).val < 7 := (q 2).isLt
    have h3 : (q 3).val < 7 := (q 3).isLt
    have hb := b.isLt
    have hk := k.isLt
    have hi := i.isLt
    have hj := j.isLt
    unfold plane
    by_cases c : (3 ≤ i.val + (q 2).val ∧ i.val + (q 2).val < 131) ∧ (3 ≤ j.val + (q 3).val ∧ j.val + (q 3).val < 131)
    · rw [dif_pos c]
      refine (dif_pos fun a => ?_).trans (congrArg x (funext fun a => Fin.ext ?_))
      · match a with
        | ⟨0, _⟩ => show 0 ≤ b.val * 1 + (q 0).val ∧ b.val * 1 + (q 0).val - 0 < 8; omega
        | ⟨1, _⟩ => show 0 ≤ k.val * 1 + (q 1).val ∧ k.val * 1 + (q 1).val - 0 < 256; omega
        | ⟨2, _⟩ => show 3 ≤ i.val * 1 + (q 2).val ∧ i.val * 1 + (q 2).val - 3 < 128; omega
        | ⟨3, _⟩ => show 3 ≤ j.val * 1 + (q 3).val ∧ j.val * 1 + (q 3).val - 3 < 128; omega
      · match a with
        | ⟨0, _⟩ => show b.val * 1 + (q 0).val - 0 = b.val; omega
        | ⟨1, _⟩ => show k.val * 1 + (q 1).val - 0 = k.val; omega
        | ⟨2, _⟩ => show i.val * 1 + (q 2).val - 3 = i.val + (q 2).val - 3; omega
        | ⟨3, _⟩ => show j.val * 1 + (q 3).val - 3 = j.val + (q 3).val - 3; omega
    · rw [dif_neg c]
      refine dif_neg fun h => c ?_
      have e2 : 3 ≤ i.val * 1 + (q 2).val ∧ i.val * 1 + (q 2).val - 3 < 128 := h 2
      have e3 : 3 ≤ j.val * 1 + (q 3).val ∧ j.val * 1 + (q 3).val - 3 < 128 := h 3
      omega
  · rw [sum_idx4]
    simp only [Finset.univ_unique, Finset.sum_singleton]
    unfold box
    rw [Finset.sum_comm]
    simp only [Finset.sum_range]
    rfl

/-- The reference's mean, deviation and normalized image. -/
def meanOf (x : FVec Ideal S8x256x128x128 .f32) : FVec Ideal S8x256x128x128 .f32 := Host.divf (boxOf x) (every 0x42440000#32)
def devOf (x : FVec Ideal S8x256x128x128 .f32) : FVec Ideal S8x256x128x128 .f32 :=
  Host.sqrt (maximumf (Host.divf (subf (boxOf (mulf x x)) (mulf (mulf (every 0x42440000#32) (meanOf x)) (meanOf x)))
    (every 0x42400000#32)) (every 0x00000000#32))
def nrmOf (x : FVec Ideal S8x256x128x128 .f32) : FVec Ideal S8x256x128x128 .f32 :=
  Host.divf (subf x (meanOf x)) (addf (devOf x) (every 0x322BCC77#32))

/-- Its one-by-one convolution. -/
def convOf (w : FVec Ideal S256x256 .f32) (v : FVec Ideal S256 .f32) (x : FVec Ideal S8x256x128x128 .f32) :
    FVec Ideal S8x256x128x128 .f32 :=
  addf (transpose S8x256x128x128 [0, 3, 1, 2] (Host.dotGeneral dot_S8x256x128x128_S256x256_S8x128x128x256_1_1_023_0_n_n none x w) transposes_S8x128x128x256_S8x256x128x128_0_3_1_2)
    (broadcastInDim S8x256x128x128 ![0, 1, 2, 3] bcast_S1x256x1x1_S8x256x128x128_0_1_2_3 (broadcastInDim S1x256x1x1 ![1] bcast_S256_S1x256x1x1_1 v))

/-- The word of 49. -/
theorem ofBits_real49 : Ideal.ofBits .f32 0x42440000#32 = ((49 : ℝ) : EReal) := by
  simp [Ideal.ofBits, Ideal.ieee, -EReal.coe_mul]; norm_num
/-- The word of 48. -/
theorem ofBits_real48 : Ideal.ofBits .f32 0x42400000#32 = ((48 : ℝ) : EReal) := by
  simp [Ideal.ofBits, Ideal.ieee, -EReal.coe_mul]; norm_num

section
variable (x : FVec Ideal S8x256x128x128 .f32) (b : Fin 8) (k o : Fin 256) (i j : Fin 128)

/-- The reference's mean at an index is the window's mean. -/
theorem meanOf_apply : meanOf x (ix4 b k i j) = mean (plane x b k) i j := by
  show Ideal.div (boxOf x (ix4 b k i j)) (Ideal.ofBits .f32 0x42440000#32) = _
  rw [boxOf_apply, ofBits_real49, Ideal.div_coe (by norm_num)]
  rfl

/-- The plane of the squares. -/
theorem plane_sq : plane (mulf x x) b k = fun h l => plane x b k h l * plane x b k h l := by
  funext h l
  unfold plane
  by_cases e : (3 ≤ h ∧ h < 131) ∧ (3 ≤ l ∧ l < 131)
  · rw [dif_pos e, dif_pos e]; rfl
  · rw [dif_neg e, dif_neg e, mul_zero]

/-- Its deviation at an index is the window's. -/
theorem devOf_apply : devOf x (ix4 b k i j) = dev (plane x b k) i j := by
  show Ideal.sqrt (max (Ideal.div (boxOf (mulf x x) (ix4 b k i j) -
    Ideal.ofBits .f32 0x42440000#32 * meanOf x (ix4 b k i j) * meanOf x (ix4 b k i j)) (Ideal.ofBits .f32 0x42400000#32))
      (Ideal.ofBits .f32 0x00000000#32)) = _
  rw [boxOf_apply, plane_sq, meanOf_apply, ofBits_real49, ofBits_real48, Ideal.div_coe (by norm_num), Ideal.ofBits_zero_f32]
  rfl

/-- Its normalized entry at an index. -/
theorem nrmOf_apply : nrmOf x (ix4 b k i j) = nrm (plane x b k) i j := by
  show Ideal.div (x (ix4 b k i j) - meanOf x (ix4 b k i j)) (devOf x (ix4 b k i j) + Ideal.ofBits .f32 0x322BCC77#32) = _
  rw [meanOf_apply, devOf_apply, ← plane_in x b k i j (i + 3) (j + 3) rfl rfl]
  rfl

/-- Its convolution at an index. -/
theorem convOf_apply (w : FVec Ideal S256x256 .f32) (v : FVec Ideal S256 .f32) :
    convOf w v x (ix4 b o i j) = conv (fun o k => w (ix2 o k)) (fun o => v (ix1 o)) (fun k => x (ix4 b k i j)) o := by
  unfold conv
  simp only [mul_comm (w _)]
  pointwise [convOf]
end

end Cert.ReferenceIdeal.Value

end
-- ==== Proof.Value.Stages.lean ====
module

public import proofs.«01_k».proof.Proof.Gen.KernelIdeal.Skeleton
public import Idealize.ShloMosaic.Lib.Pointwise
public import Idealize.ShloMosaic.Lib.IdealHost

/-!
The box filter of the first launch's body, cut in its two passes: seven rows of a column, then seven lanes of a row.
The body's payloads are these passes applied to the assembled tile and to its square, by definition.
-/

@[expose] public section

set_option maxRecDepth 16384

noncomputable section

namespace Cert.KernelIdeal.Whole

open Idealize.ShloMosaic Idealize.ShloMosaic.Pointwise
open Cert.KernelIdeal Cert.KernelIdeal.Gen

/-- The first pass: at lane `p` the seven lanes `p + 128`, …, `p + 896`, as the body adds them. -/
def colsum (a : FVec Ideal S256x3072 .f32) : FVec Ideal S256x2048 .f32 :=
  have u : FVec Ideal S256x2816 .f32 :=
    addf (extractStridedSlice S256x2816 ![0, 128] a slices_S256x3072_o0_128_S256x2816)
      (extractStridedSlice S256x2816 ![0, 256] a slices_S256x3072_o0_256_S256x2816)
  have v : FVec Ideal S256x2560 .f32 :=
    addf (extractStridedSlice S256x2560 ![0, 0] u slices_S256x2816_o0_0_S256x2560)
      (extractStridedSlice S256x2560 ![0, 256] u slices_S256x2816_o0_256_S256x2560)
  addf (addf (extractStridedSlice S256x2048 ![0, 0] v slices_S256x2560_o0_0_S256x2048)
      (extractStridedSlice S256x2048 ![0, 512] u slices_S256x2816_o0_512_S256x2048))
    (extractStridedSlice S256x2048 ![0, 896] a slices_S256x3072_o0_896_S256x2048)

/-- Three lanes of zeros. -/
def zero3 : FVec Ideal S256x3 .f32 := broadcast S256x3 (Scalar.ofBits (F := Ideal) .f32 0x00000000#32)

/-- The lanes one, two and three to the right of lane `p`, zeros past the end. -/
def left1 (y : FVec Ideal S256x2048 .f32) : FVec Ideal S256x2048 .f32 :=
  concatenate S256x2048 1 [⟨S256x2047, extractStridedSlice S256x2047 ![0, 1] y slices_S256x2048_o0_1_S256x2047⟩,
    ⟨S256x1, extractStridedSlice S256x1 ![0, 0] zero3 slices_S256x3_o0_0_S256x1⟩]
    concatenates_S256x2047_S256x1_S256x2048_d1
@[inherit_doc left1]
def left2 (y : FVec Ideal S256x2048 .f32) : FVec Ideal S256x2048 .f32 :=
  concatenate S256x2048 1 [⟨S256x2046, extractStridedSlice S256x2046 ![0, 2] y slices_S256x2048_o0_2_S256x2046⟩,
    ⟨S256x2, extractStridedSlice S256x2 ![0, 0] zero3 slices_S256x3_o0_0_S256x2⟩]
    concatenates_S256x2046_S256x2_S256x2048_d1
@[inherit_doc left1]
def left3 (y : FVec Ideal S256x2048 .f32) : FVec Ideal S256x2048 .f32 :=
  concatenate S256x2048 1 [⟨S256x2045, extractStridedSlice S256x2045 ![0, 3] y slices_S256x2048_o0_3_S256x2045⟩,
    ⟨S256x3, zero3⟩] concatenates_S256x2045_S256x3_S256x2048_d1
/-- The lanes one, two and three to the left of lane `p`, zeros before the start. -/
def right1 (y : FVec Ideal S256x2048 .f32) : FVec Ideal S256x2048 .f32 :=
  concatenate S256x2048 1 [⟨S256x1, extractStridedSlice S256x1 ![0, 0] zero3 slices_S256x3_o0_0_S256x1⟩,
    ⟨S256x2047, extractStridedSlice S256x2047 ![0, 0] y slices_S256x2048_o0_0_S256x2047⟩]
    concatenates_S256x1_S256x2047_S256x2048_d1
@[inherit_doc right1]
def right2 (y : FVec Ideal S256x2048 .f32) : FVec Ideal S256x2048 .f32 :=
  concatenate S256x2048 1 [⟨S256x2, extractStridedSlice S256x2 ![0, 0] zero3 slices_S256x3_o0_0_S256x2⟩,
    ⟨S256x2046, extractStridedSlice S256x2046 ![0, 0] y slices_S256x2048_o0_0_S256x2046⟩]
    concatenates_S256x2_S256x2046_S256x2048_d1
@[inherit_doc right1]
def right3 (y : FVec Ideal S256x2048 .f32) : FVec Ideal S256x2048 .f32 :=
  concatenate S256x2048 1 [⟨S256x3, zero3⟩,
    ⟨S256x2045, extractStridedSlice S256x2045 ![0, 0] y slices_S256x2048_o0_0_S256x2045⟩]
    concatenates_S256x3_S256x2045_S256x2048_d1

/-- A row of lanes repeated over the channels. -/
def rows (m : FVec Ideal S1x2048 .f32) : FVec Ideal S256x2048 .f32 := broadcastTo S256x2048 m broadcasts_S1x2048_S256x2048

/-- The second pass: the lane itself, and the six around it under the masks of the image's row. -/
def rowsum (y : FVec Ideal S256x2048 .f32) : FVec Ideal S256x2048 .f32 :=
  addf (addf (addf (addf (addf (addf y (mulf (left1 y) (rows k0_pay5))) (mulf (right1 y) (rows k0_pay8)))
    (mulf (left2 y) (rows k0_pay6))) (mulf (right2 y) (rows k0_pay9)))
    (mulf (left3 y) (rows k0_pay7))) (mulf (right3 y) (rows k0_pay10))

/-- The first pass at an index. -/
theorem colsum_apply (a : FVec Ideal S256x3072 .f32) (r : Fin 256) (p : Fin 2048) :
    colsum a (ix2 r p) =
      a (ix2 r ⟨128 + p, by omega⟩) + a (ix2 r ⟨256 + p, by omega⟩) +
        (a (ix2 r ⟨128 + (256 + p), by omega⟩) + a (ix2 r ⟨256 + (256 + p), by omega⟩)) +
        (a (ix2 r ⟨128 + (512 + p), by omega⟩) + a (ix2 r ⟨256 + (512 + p), by omega⟩)) +
        a (ix2 r ⟨896 + p, by omega⟩) := by
  pointwise [colsum]

theorem left1_apply (y : FVec Ideal S256x2048 .f32) (r : Fin 256) (p : Fin 2048) :
    left1 y (ix2 r p) = if h : p.val < 2047 then y (ix2 r ⟨1 + p, by omega⟩) else 0 := by
  pointwise [left1, zero3]
theorem left2_apply (y : FVec Ideal S256x2048 .f32) (r : Fin 256) (p : Fin 2048) :
    left2 y (ix2 r p) = if h : p.val < 2046 then y (ix2 r ⟨2 + p, by omega⟩) else 0 := by
  pointwise [left2, zero3]
theorem left3_apply (y : FVec Ideal S256x2048 .f32) (r : Fin 256) (p : Fin 2048) :
    left3 y (ix2 r p) = if h : p.val < 2045 then y (ix2 r ⟨3 + p, by omega⟩) else 0 := by
  pointwise [left3, zero3]
theorem right1_apply (y : FVec Ideal S256x2048 .f32) (r : Fin 256) (p : Fin 2048) :
    right1 y (ix2 r p) = if h : p.val < 1 then 0 else y (ix2 r ⟨p - 1, by omega⟩) := by
  pointwise [right1, zero3]
theorem right2_apply (y : FVec Ideal S256x2048 .f32) (r : Fin 256) (p : Fin 2048) :
    right2 y (ix2 r p) = if h : p.val < 2 then 0 else y (ix2 r ⟨p - 2, by omega⟩) := by
  pointwise [right2, zero3]
theorem right3_apply (y : FVec Ideal S256x2048 .f32) (r : Fin 256) (p : Fin 2048) :
    right3 y (ix2 r p) = if h : p.val < 3 then 0 else y (ix2 r ⟨p - 3, by omega⟩) := by
  pointwise [right3, zero3]

/-- The remainder of a lane by the image's width, as the body computes it. -/
theorem pay4_apply (p : Fin 2048) : k0_pay4 (ix2 (0 : Fin 1) p) = BitVec.ofNat 32 (p % 128) := by
  pointwise [k0_pay4]
  revert p
  decide +kernel

/-- A comparison's bit made a number. -/
theorem number_bit (c : Prop) [Decidable c] (b : BitVec 1) (h : b = if c then 1#1 else 0#1) :
    FloatOps.sitofp (F := Ideal) .f32 (BitVec.setWidth 32 b) = if c then (1 : EReal) else 0 := by
  subst h
  split
  · show ((((1#32 : BitVec 32).toInt : ℤ) : ℝ) : EReal) = 1
    rw [show (1#32 : BitVec 32).toInt = 1 from rfl]; norm_num
  · show ((((0#32 : BitVec 32).toInt : ℤ) : ℝ) : EReal) = 0
    rw [show (0#32 : BitVec 32).toInt = 0 from rfl]; norm_num

theorem pay5_apply (p : Fin 2048) : k0_pay5 (F := Ideal) (ix2 (0 : Fin 1) p) = if p.val % 128 < 127 then (1 : EReal) else 0 := by
  pointwise [k0_pay5, pay4_apply]
  refine number_bit _ _ ?_
  revert p
  decide +kernel
theorem pay6_apply (p : Fin 2048) : k0_pay6 (F := Ideal) (ix2 (0 : Fin 1) p) = if p.val % 128 < 126 then (1 : EReal) else 0 := by
  pointwise [k0_pay6, pay4_apply]
  refine number_bit _ _ ?_
  revert p
  decide +kernel
theorem pay7_apply (p : Fin 2048) : k0_pay7 (F := Ideal) (ix2 (0 : Fin 1) p) = if p.val % 128 < 125 then (1 : EReal) else 0 := by
  pointwise [k0_pay7, pay4_apply]
  refine number_bit _ _ ?_
  revert p
  decide +kernel
theorem pay8_apply (p : Fin 2048) : k0_pay8 (F := Ideal) (ix2 (0 : Fin 1) p) = if 1 ≤ p.val % 128 then (1 : EReal) else 0 := by
  pointwise [k0_pay8, pay4_apply]
  refine number_bit _ _ ?_
  revert p
  decide +kernel
theorem pay9_apply (p : Fin 2048) : k0_pay9 (F := Ideal) (ix2 (0 : Fin 1) p) = if 2 ≤ p.val % 128 then (1 : EReal) else 0 := by
  pointwise [k0_pay9, pay4_apply]
  refine number_bit _ _ ?_
  revert p
  decide +kernel
theorem pay10_apply (p : Fin 2048) : k0_pay10 (F := Ideal) (ix2 (0 : Fin 1) p) = if 3 ≤ p.val % 128 then (1 : EReal) else 0 := by
  pointwise [k0_pay10, pay4_apply]
  refine number_bit _ _ ?_
  revert p
  decide +kernel

theorem rows_apply (m : FVec Ideal S1x2048 .f32) (r : Fin 256) (p : Fin 2048) : rows m (ix2 r p) = m (ix2 0 p) := by
  pointwise [rows]

section Lanes

variable (y : FVec Ideal S256x2048 .f32) (r : Fin 256) (g : ℕ → ℕ → EReal)
  (hy : ∀ p : Fin 2048, y (ix2 r p) = g (p / 128) (p % 128 + 3))
include hy

/-- The lane `s` to the right under its mask, where `g` vanishes past the image's row. -/
theorem left_masked (hr : ∀ h j, 131 ≤ j → g h j = 0) (s n k : ℕ) (hn : n + s = 2048) (hk : k + s = 128) (hs : s ≤ 3)
    (p : Fin 2048) :
    (if h : p.val < n then y (ix2 r ⟨s + p, by omega⟩) else 0) * (if p.val % 128 < k then (1 : EReal) else 0) =
      g (p / 128) (p % 128 + (3 + s)) := by
  have hp := p.isLt
  split_ifs with h1 h2
  · rw [mul_one, hy, show ((⟨s + p.val, by omega⟩ : Fin 2048).val) = s + p.val from rfl]
    congr 1 <;> omega
  · rw [mul_zero, hr _ _ (by omega)]
  · omega
  · rw [mul_zero, hr _ _ (by omega)]

/-- The lane `s` to the left under its mask, where `g` vanishes before the image's row. -/
theorem right_masked (hl : ∀ h j, j < 3 → g h j = 0) (s k : ℕ) (hk : k + s = 3) (p : Fin 2048) :
    (if h : p.val < s then 0 else y (ix2 r ⟨p - s, by omega⟩)) * (if s ≤ p.val % 128 then (1 : EReal) else 0) =
      g (p / 128) (p % 128 + k) := by
  have hp := p.isLt
  split_ifs with h1 h2
  · omega
  · rw [mul_zero, hl _ _ (by omega)]
  · rw [mul_one, hy, show ((⟨p.val - s, by omega⟩ : Fin 2048).val) = p.val - s from rfl]
    congr 1 <;> omega
  · rw [mul_zero, hl _ _ (by omega)]

/-- The second pass at an index, for a column sum that reads a function of the image's row and the padded column,
    which vanishes on the three columns of padding at either end. -/
theorem rowsum_apply (hl : ∀ h j, j < 3 → g h j = 0) (hr : ∀ h j, 131 ≤ j → g h j = 0) (p : Fin 2048) :
    rowsum y (ix2 r p) = ∑ b ∈ Finset.range 7, g (p / 128) (p % 128 + b) := by
  have e1 := left_masked y r g hy hr 1 2047 127 rfl rfl (by omega) p
  have e2 := left_masked y r g hy hr 2 2046 126 rfl rfl (by omega) p
  have e3 := left_masked y r g hy hr 3 2045 125 rfl rfl (by omega) p
  have f1 := right_masked y r g hy hl 1 2 rfl p
  have f2 := right_masked y r g hy hl 2 1 rfl p
  have f3 := right_masked y r g hy hl 3 0 rfl p
  have e0 := hy p
  simp only [rowsum, addf_apply, mulf_apply, rows_apply, pay5_apply, pay6_apply, pay7_apply, pay8_apply, pay9_apply, pay10_apply,
    left1_apply, left2_apply, left3_apply, right1_apply, right2_apply, right3_apply, Ideal.addf_def, Ideal.mulf_def]
  rw [e0, e1, e2, e3, f1, f2, f3]
  simp only [Finset.sum_range_succ, Finset.sum_range_zero, zero_add, Nat.reduceAdd]
  ac_rfl

end Lanes

theorem pay12_eq (a1 : BitVec 32) (c : BitVec 1) (x y : Vec Ideal S1x256x512 .f32) (z : Vec Ideal S1x256x2048 .f32) :
    k0_pay12 a1 c x y z = colsum (k0_pay11 a1 c x y z) := rfl

theorem pay17_eq (a1 : BitVec 32) (c : BitVec 1) (x y : Vec Ideal S1x256x512 .f32) (z : Vec Ideal S1x256x2048 .f32) :
    k0_pay17 k0_pay7 k0_pay10 (k0_pay14 a1 k0_pay5 k0_pay6 k0_pay8 k0_pay9 c x y z) (k0_pay15 a1 c x y z)
      (k0_pay16 a1 c x y z) =
      mulf (rowsum (colsum (k0_pay11 a1 c x y z))) (broadcast S256x2048 (Named.named (F := Ideal) κ "inv49" 0x3CA72F05#32)) := rfl

end Cert.KernelIdeal.Whole

end
-- ==== Proof.Value.Tile.lean ====
module

public import proofs.«01_k».proof.Proof.Value.Stages
public import proofs.«01_k».proof.Proof.Value.Spec

/-!
What the first launch's body computes from one tile's blocks, stage by stage, and each stage at a lane in the problem's
own terms.
-/

@[expose] public section

set_option maxRecDepth 16384

noncomputable section

namespace Cert.KernelIdeal.Whole

open Idealize.ShloMosaic Idealize.ShloMosaic.Pointwise
open Cert.KernelIdeal Cert.KernelIdeal.Gen Cert.Blend

/-- The mean of an assembled tile. -/
def tileMean (a : FVec Ideal S256x3072 .f32) : FVec Ideal S256x2048 .f32 :=
  mulf (rowsum (colsum a)) (broadcast S256x2048 (Named.named (F := Ideal) κ "inv49" 0x3CA72F05#32))

/-- Forty-eight times its variance. -/
def tileSpread (a : FVec Ideal S256x3072 .f32) : FVec Ideal S256x2048 .f32 :=
  subf (rowsum (colsum (mulf a a)))
    (mulf (mulf (broadcast S256x2048 (Scalar.ofBits (F := Ideal) .f32 0x42440000#32)) (tileMean a)) (tileMean a))

/-- Its deviation. -/
def tileDev (a : FVec Ideal S256x3072 .f32) : FVec Ideal S256x2048 .f32 := k0_pay19 (tileSpread a)

/-- The tile normalized. -/
def tileNrm (a : FVec Ideal S256x3072 .f32) (z : Vec Ideal S1x256x2048 .f32) : FVec Ideal S256x2048 .f32 :=
  divf (subf (shapeCast S256x2048 z shapeCasts_S1x256x2048_S256x2048) (tileMean a))
    (addf (tileDev a) (broadcast S256x2048 (Scalar.ofBits (F := Ideal) .f32 0x322BCC77#32)))

/-- A one-by-one convolution of a tile. -/
def tileConv (w : FVec Ideal S256x256 .f32) (b : Vec Ideal S256x1 .f32) (y : FVec Ideal S256x2048 .f32) :
    FVec Ideal S256x2048 .f32 :=
  addf (matmul dot_S256x256_S256x2048_S256x2048_1_0_0_1_n_n none w y (constant S256x2048 .f32 0x00000000#32))
    (broadcastTo S256x2048 (shapeCast S256x1 b shapeCasts_S256x1_S256x1) broadcasts_S256x1_S256x2048)

/-- The first named constant is 1/49. -/
theorem Named_inv49 : Named.named (F := Ideal) (φ := .f32) κ "inv49" 0x3CA72F05#32 = ((1 / 49 : ℝ) : EReal) :=
  IdealRules.named_const.ideal_named_scalar _ _ _ _ rfl

/-- The second is 1/48. -/
theorem Named_inv48 : Named.named (F := Ideal) (φ := .f32) κ "inv48" 0x3CAAAAAB#32 = ((1 / 48 : ℝ) : EReal) :=
  IdealRules.named_const.ideal_named_scalar _ _ _ _ rfl

/-- The word of 49. -/
theorem ofBits_49 : Ideal.ofBits .f32 0x42440000#32 = (49 : EReal) := by
  have h : Ideal.ofBits .f32 0x42440000#32 = ((49 : ℝ) : EReal) := by
    simp [Ideal.ofBits, Ideal.ieee, -EReal.coe_mul]; norm_num
  exact h

/-- A choice by a decided bit. -/
theorem select_bit {α : Type} (c : Prop) [Decidable c] (x y : α) :
    Scalar.select (if c then 1#1 else 0#1) x y = if c then x else y := by
  split_ifs <;> rfl

/-- The tile's rows with the four rows above and below it, at a lane: the image's plane, whose padding stands where the
    first and the last tile put zeros. -/
theorem tileAsm_apply (t : ℕ) (ht : t < 8) (a1 : BitVec 32) (h1 : a1 = BitVec.ofNat 32 t)
    (x y : Vec Ideal S1x256x512 .f32) (z : Vec Ideal S1x256x2048 .f32) (P : Fin 256 → Plane)
    (hP : ∀ r h j, (h < 3 ∨ 131 ≤ h) → P r h j = 0)
    (hx : t ≠ 0 → ∀ (r : Fin 256) (p : Fin 512), x (ix3 0 r p) = P r (16 * t + p / 128 - 1) (p % 128 + 3))
    (hy : t ≠ 7 → ∀ (r : Fin 256) (p : Fin 512), y (ix3 0 r p) = P r (16 * t + p / 128 + 19) (p % 128 + 3))
    (hz : ∀ (r : Fin 256) (p : Fin 2048), z (ix3 0 r p) = P r (16 * t + p / 128 + 3) (p % 128 + 3))
    (r : Fin 256) (q : Fin 3072) (hq : 128 ≤ q.val) :
    k0_pay21 a1 x y z (ix2 r q) = P r (16 * t + q / 128 - 1) (q % 128 + 3) := by
  have e0 : (Scalar.cmpi .eq a1 0#32 : BitVec 1) = if t = 0 then 1#1 else 0#1 := by
    subst h1; interval_cases t <;> decide
  have e7 : (Scalar.cmpi .eq a1 7#32 : BitVec 1) = if t = 7 then 1#1 else 0#1 := by
    subst h1; interval_cases t <;> decide
  have hql := q.isLt
  have s0 : ∀ u v : EReal, Scalar.select (Scalar.cmpi .eq a1 0#32) u v = if t = 0 then u else v :=
    fun u v => by rw [e0, select_bit]
  have s7 : ∀ u v : EReal, Scalar.select (Scalar.cmpi .eq a1 7#32) u v = if t = 7 then u else v :=
    fun u v => by rw [e7, select_bit]
  pointwise [k0_pay21]
  by_cases c1 : q.val < 512
  · refine (dif_pos c1).trans ((s0 _ _).trans ?_)
    by_cases c2 : t = 0
    · exact (if_pos c2).trans (hP _ _ _ (Or.inl (by subst c2; omega))).symm
    · refine (if_neg c2).trans ((hx c2 r ⟨q, c1⟩).trans ?_)
      congr 1
  · refine (dif_neg c1).trans ?_
    by_cases c3 : q.val - 512 < 2048
    · refine (dif_pos c3).trans ((hz r ⟨q.val - 512, c3⟩).trans ?_)
      congr 1 <;> simp only <;> omega
    · refine (dif_neg c3).trans ((s7 _ _).trans ?_)
      by_cases c4 : t = 7
      · exact (if_pos c4).trans (hP _ _ _ (Or.inr (by subst c4; omega))).symm
      · refine (if_neg c4).trans ((hy c4 r ⟨q.val - 512 - 2048, by omega⟩).trans ?_)
        congr 1 <;> simp only <;> omega

section Lanes

variable (t : ℕ) (r : Fin 256) (P : Plane) (hl : ∀ h j, (j < 3 ∨ 131 ≤ j) → P h j = 0)
include hl

/-- The two passes over a tile that holds a plane's rows are the box filter. -/
theorem passes_apply (a : FVec Ideal S256x3072 .f32)
    (ha : ∀ q : Fin 3072, 128 ≤ q.val → a (ix2 r q) = P (16 * t + q / 128 - 1) (q % 128 + 3)) (p : Fin 2048) :
    rowsum (colsum a) (ix2 r p) = box P (16 * t + p / 128) (p % 128) := by
  have hc : ∀ p : Fin 2048, colsum a (ix2 r p) = ∑ b ∈ Finset.range 7, P (16 * t + p / 128 + b) (p % 128 + 3) := by
    intro p
    have e : ∀ (q : Fin 3072) (b : ℕ), q.val = 128 * (b + 1) + p → a (ix2 r q) = P (16 * t + p / 128 + b) (p % 128 + 3) := by
      intro q b h
      rw [ha q (by omega)]
      congr 1 <;> omega
    rw [colsum_apply, e ⟨128 + p.val, by omega⟩ 0 (by show 128 + p.val = _; omega),
      e ⟨256 + p.val, by omega⟩ 1 (by show 256 + p.val = _; omega),
      e ⟨128 + (256 + p.val), by omega⟩ 2 (by show 128 + (256 + p.val) = _; omega),
      e ⟨256 + (256 + p.val), by omega⟩ 3 (by show 256 + (256 + p.val) = _; omega),
      e ⟨128 + (512 + p.val), by omega⟩ 4 (by show 128 + (512 + p.val) = _; omega),
      e ⟨256 + (512 + p.val), by omega⟩ 5 (by show 256 + (512 + p.val) = _; omega),
      e ⟨896 + p.val, by omega⟩ 6 (by show 896 + p.val = _; omega)]
    simp only [Finset.sum_range_succ, Finset.sum_range_zero, zero_add]
    ac_rfl
  exact rowsum_apply (colsum a) r (fun h j => ∑ b ∈ Finset.range 7, P (16 * t + h + b) j) hc
    (fun h j hj => Finset.sum_eq_zero fun b _ => hl _ _ (Or.inl hj))
    (fun h j hj => Finset.sum_eq_zero fun b _ => hl _ _ (Or.inr hj)) p

variable (a : FVec Ideal S256x3072 .f32)
  (ha : ∀ q : Fin 3072, 128 ≤ q.val → a (ix2 r q) = P (16 * t + q / 128 - 1) (q % 128 + 3)) (p : Fin 2048)
include ha

/-- A tile's mean at a lane. -/
theorem tileMean_apply : tileMean a (ix2 r p) = mean P (16 * t + p / 128) (p % 128) := by
  unfold tileMean mean
  rw [← passes_apply t r P hl a ha p, Named_inv49]
  rfl

/-- A tile's deviation at a lane. -/
theorem tileDev_apply : tileDev a (ix2 r p) = dev P (16 * t + p / 128) (p % 128) := by
  have h2 := passes_apply t r (fun h k => P h k * P h k) (fun h j hj => by simp only [hl h j hj, mul_zero]) (mulf a a)
    (fun q hq => by simp only [mulf_apply, Ideal.mulf_def, ha q hq]) p
  have h1 := tileMean_apply t r P hl a ha p
  unfold tileDev k0_pay19 dev
  rw [Named_inv48, ← h2, ← h1]
  simp only [tileSpread]
  pointwise []
  simp only [ofBits_49]

/-- A tile's normalized entry at a lane. -/
theorem tileNrm_apply (z : Vec Ideal S1x256x2048 .f32)
    (hz : z (ix3 0 r p) = P (16 * t + p / 128 + 3) (p % 128 + 3)) :
    tileNrm a z (ix2 r p) = nrm P (16 * t + p / 128) (p % 128) := by
  unfold nrm
  rw [← tileMean_apply t r P hl a ha p, ← tileDev_apply t r P hl a ha p, ← hz]
  pointwise [tileNrm]
  rfl

end Lanes

/-- A tile's convolution at a lane. -/
theorem tileConv_apply (w : FVec Ideal S256x256 .f32) (b : Vec Ideal S256x1 .f32) (y : FVec Ideal S256x2048 .f32)
    (r : Fin 256) (p : Fin 2048) :
    tileConv w b y (ix2 r p) = conv (fun o k => w (ix2 o k)) (fun o => b (ix2 o 0)) (fun k => y (ix2 k p)) r := by
  unfold conv
  pointwise [tileConv]
  try rw [zero_add]

/-- The similarity row at a lane. -/
theorem pay33_apply (g f b : FVec Ideal S256x2048 .f32) (p : Fin 2048) :
    k0_pay33 g f b (ix2 0 p) = sim (fun k => addf f b (ix2 k p)) (fun k => g (ix2 k p)) := by
  unfold sim
  pointwise [k0_pay33]
  try simp only [zero_add]

end Cert.KernelIdeal.Whole

end
-- ==== Proof.Value.Body.lean ====
module

public import proofs.«01_k».proof.Proof.KernelIdeal.Runs0
public import proofs.«01_k».proof.Proof.Value.Tile

/-!
What one point of the first launch leaves in its five output blocks: the tile's stages, of the point's input blocks.
-/

@[expose] public section

set_option maxRecDepth 16384

noncomputable section

namespace Cert.KernelIdeal.Whole

open Idealize.ShloMosaic Idealize.ShloMosaic.TcCoe Idealize.ShloMosaic.Tactic
open Cert.KernelIdeal Cert.KernelIdeal.Gen

/-- A point's input blocks and its tile number. -/
structure Blocks where
  a1 : BitVec 32
  fc : Vec Ideal S1x256x2048 .f32
  ft : Vec Ideal S1x256x512 .f32
  fb : Vec Ideal S1x256x512 .f32
  bc : Vec Ideal S1x256x2048 .f32
  bt : Vec Ideal S1x256x512 .f32
  bb : Vec Ideal S1x256x512 .f32
  we : Vec Ideal S256x256 .f32
  be : Vec Ideal S256x1 .f32
  wf : Vec Ideal S256x256 .f32
  bf : Vec Ideal S256x1 .f32
  wg : Vec Ideal S256x256 .f32
  bg : Vec Ideal S256x1 .f32
  wh : Vec Ideal S256x256 .f32
  bh : Vec Ideal S256x1 .f32

namespace Blocks

variable (T : Blocks)

def front : FVec Ideal S256x3072 .f32 := k0_pay21 T.a1 T.ft T.fb T.fc
def back : FVec Ideal S256x3072 .f32 := k0_pay21 T.a1 T.bt T.bb T.bc
def FF : FVec Ideal S256x2048 .f32 := tileConv T.wf T.bf (tileNrm T.front T.fc)
def GG : FVec Ideal S256x2048 .f32 := tileConv T.wg T.bg (tileNrm T.back T.bc)
def HH : FVec Ideal S256x2048 .f32 := k0_pay1 T.wh T.bc T.bh
def EE : FVec Ideal S256x2048 .f32 :=
  tileConv T.we T.be (addf (mulf (tileNrm T.front T.fc) (tileDev T.back)) (tileMean T.back))
/-- The convolution of the front's normalized tile, before its bias. -/
def ff0 : FVec Ideal S256x2048 .f32 :=
  matmul (φ₁ := .f32) (φ₂ := .f32) dot_S256x256_S256x2048_S256x2048_1_0_0_1_n_n none T.wf (tileNrm T.front T.fc)
    (constant S256x2048 .f32 0x00000000#32)

end Blocks

theorem hz2 : (![0, 0] : Fin 2 → Nat) = fun _ => 0 := funext fun a => by fin_cases a <;> rfl
theorem hz3 : (![0, 0, 0] : Fin 3 → Nat) = fun _ => 0 := funext fun a => by fin_cases a <;> rfl

section Points

variable (c : Dev nD) (i : grid0.Coords) (arg2 : Memref sig .tc .vmem S1x256x2048 .f32) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x256x2048 .f32) (harg5 : arg5.IsWhole) (arg6 : Memref sig .tc .vmem S1x256x512 .f32) (harg6 : arg6.IsWhole) (arg7 : Memref sig .tc .vmem S1x256x512 .f32) (harg7 : arg7.IsWhole) (arg8 : Memref sig .tc .vmem S256x256 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x1 .f32) (harg11 : arg11.IsWhole) (arg12 : Memref sig .tc .vmem S256x256 .f32) (harg12 : arg12.IsWhole) (arg13 : Memref sig .tc .vmem S256x1 .f32) (harg13 : arg13.IsWhole) (arg14 : Memref sig .tc .vmem S256x256 .f32) (harg14 : arg14.IsWhole) (arg15 : Memref sig .tc .vmem S256x1 .f32) (harg15 : arg15.IsWhole) (arg16 : Memref sig .tc .vmem S1x1x2048 .f32) (harg16 : arg16.IsWhole) (arg17 : Memref sig .tc .vmem S1x1x128 .f32) (harg17 : arg17.IsWhole) (arg18 : Memref sig .tc .vmem S1x1x128 .f32) (harg18 : arg18.IsWhole) (arg19 : Memref sig .tc .vmem S1x256x2048 .bf16) (harg19 : arg19.IsWhole) (arg20 : Memref sig .tc .vmem S1x256x2048 .bf16) (harg20 : arg20.IsWhole)
  (x0 : Vec Ideal S1x256x2048 .f32) (x1 : Vec Ideal S1x256x512 .f32) (x2 : Vec Ideal S1x256x512 .f32) (x3 : Vec Ideal S1x256x2048 .f32) (x4 : Vec Ideal S1x256x512 .f32) (x5 : Vec Ideal S1x256x512 .f32) (x6 : Vec Ideal S256x256 .f32) (x7 : Vec Ideal S256x1 .f32) (x8 : Vec Ideal S256x256 .f32) (x9 : Vec Ideal S256x1 .f32) (x10 : Vec Ideal S256x256 .f32) (x11 : Vec Ideal S256x1 .f32) (x12 : Vec Ideal S256x256 .f32) (x13 : Vec Ideal S256x1 .f32)

theorem out_A_14 (hc0 : cond0_0 i) (hc1 : ¬cond0_1 i) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 =
      (fun T : Blocks => k0_pay34 T.GG T.ff0 (k0_pay32 T.bf)) ⟨BitVec.ofNat 32 (i 1).val, x0, x1, x2, x3, x4, x5, x6, x7, x8, x9, x10, x11, x12, x13⟩ := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S1x256x2048) hz3, View.ld_unit_zero (S := S1x256x512) hz3,
    View.ld_unit_zero (S := S1x1x128) hz3, View.ld_unit_zero (S := S256x256) hz2, View.ld_unit_zero (S := S256x1) hz2]
  rfl

theorem out_A_15 (hc0 : cond0_0 i) (hc1 : ¬cond0_1 i) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 =
      (fun T : Blocks => k0_pay37 T.GG T.ff0 (k0_pay32 T.bf)) ⟨BitVec.ofNat 32 (i 1).val, x0, x1, x2, x3, x4, x5, x6, x7, x8, x9, x10, x11, x12, x13⟩ := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S1x256x2048) hz3, View.ld_unit_zero (S := S1x256x512) hz3,
    View.ld_unit_zero (S := S1x1x128) hz3, View.ld_unit_zero (S := S256x256) hz2, View.ld_unit_zero (S := S256x1) hz2]
  rfl

theorem out_A_16 (hc0 : cond0_0 i) (hc1 : ¬cond0_1 i) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 =
      (fun T : Blocks => k0_pay38 T.GG T.ff0 (k0_pay32 T.bf)) ⟨BitVec.ofNat 32 (i 1).val, x0, x1, x2, x3, x4, x5, x6, x7, x8, x9, x10, x11, x12, x13⟩ := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S1x256x2048) hz3, View.ld_unit_zero (S := S1x256x512) hz3,
    View.ld_unit_zero (S := S1x1x128) hz3, View.ld_unit_zero (S := S256x256) hz2, View.ld_unit_zero (S := S256x1) hz2]
  rfl

theorem out_A_17 (hc0 : cond0_0 i) (hc1 : ¬cond0_1 i) :
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 =
      (fun T : Blocks => k0_pay3 T.EE T.wh T.bc T.bh) ⟨BitVec.ofNat 32 (i 1).val, x0, x1, x2, x3, x4, x5, x6, x7, x8, x9, x10, x11, x12, x13⟩ := by
  unfold out0_A_17
  rw [View.read_writes_eq_canon _ _ _ (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S1x256x2048) hz3, View.ld_unit_zero (S := S1x256x512) hz3,
    View.ld_unit_zero (S := S1x1x128) hz3, View.ld_unit_zero (S := S256x256) hz2, View.ld_unit_zero (S := S256x1) hz2]
  rfl

theorem out_A_18 (hc0 : cond0_0 i) (hc1 : ¬cond0_1 i) :
    out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 =
      (fun T : Blocks => k0_pay2 T.wh T.bc T.bh) ⟨BitVec.ofNat 32 (i 1).val, x0, x1, x2, x3, x4, x5, x6, x7, x8, x9, x10, x11, x12, x13⟩ := by
  unfold out0_A_18
  rw [View.read_writes_eq_canon _ _ _ (cover0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S1x256x2048) hz3, View.ld_unit_zero (S := S1x256x512) hz3,
    View.ld_unit_zero (S := S1x1x128) hz3, View.ld_unit_zero (S := S256x256) hz2, View.ld_unit_zero (S := S256x1) hz2]

theorem out_B_14 (hc0 : ¬cond0_0 i) (hc1 : cond0_1 i) (xo15 xo16 : Vec Ideal S1x1x128 .f32) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo15 xo16 =
      (fun T : Blocks => k0_pay34 T.GG T.ff0 (k0_pay32 T.bf)) ⟨BitVec.ofNat 32 (i 1).val, x0, x1, x2, x3, x4, x5, x6, x7, x8, x9, x10, x11, x12, x13⟩ := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo15 xo16)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S1x256x2048) hz3, View.ld_unit_zero (S := S1x256x512) hz3,
    View.ld_unit_zero (S := S1x1x128) hz3, View.ld_unit_zero (S := S256x256) hz2, View.ld_unit_zero (S := S256x1) hz2]
  rfl

theorem out_B_15 (hc0 : ¬cond0_0 i) (hc1 : cond0_1 i) (xo15 xo16 : Vec Ideal S1x1x128 .f32) :
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo15 xo16 =
      (fun T : Blocks => k0_pay39 T.GG T.ff0 (k0_pay32 T.bf) xo15) ⟨BitVec.ofNat 32 (i 1).val, x0, x1, x2, x3, x4, x5, x6, x7, x8, x9, x10, x11, x12, x13⟩ := by
  unfold out0_B_15
  rw [View.read_writes_eq_canon _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo15 xo16)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S1x256x2048) hz3, View.ld_unit_zero (S := S1x256x512) hz3,
    View.ld_unit_zero (S := S1x1x128) hz3, View.ld_unit_zero (S := S256x256) hz2, View.ld_unit_zero (S := S256x1) hz2]
  rfl

theorem out_B_16 (hc0 : ¬cond0_0 i) (hc1 : cond0_1 i) (xo15 xo16 : Vec Ideal S1x1x128 .f32) :
    out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo15 xo16 =
      (fun T : Blocks => k0_pay40 T.GG T.ff0 (k0_pay32 T.bf) xo16) ⟨BitVec.ofNat 32 (i 1).val, x0, x1, x2, x3, x4, x5, x6, x7, x8, x9, x10, x11, x12, x13⟩ := by
  unfold out0_B_16
  rw [View.read_writes_eq_canon _ _ _ (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo15 xo16)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S1x256x2048) hz3, View.ld_unit_zero (S := S1x256x512) hz3,
    View.ld_unit_zero (S := S1x1x128) hz3, View.ld_unit_zero (S := S256x256) hz2, View.ld_unit_zero (S := S256x1) hz2]
  rfl

theorem out_B_17 (hc0 : ¬cond0_0 i) (hc1 : cond0_1 i) (xo15 xo16 : Vec Ideal S1x1x128 .f32) :
    out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo15 xo16 =
      (fun T : Blocks => k0_pay3 T.EE T.wh T.bc T.bh) ⟨BitVec.ofNat 32 (i 1).val, x0, x1, x2, x3, x4, x5, x6, x7, x8, x9, x10, x11, x12, x13⟩ := by
  unfold out0_B_17
  rw [View.read_writes_eq_canon _ _ _ (cover0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo15 xo16)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S1x256x2048) hz3, View.ld_unit_zero (S := S1x256x512) hz3,
    View.ld_unit_zero (S := S1x1x128) hz3, View.ld_unit_zero (S := S256x256) hz2, View.ld_unit_zero (S := S256x1) hz2]
  rfl

theorem out_B_18 (hc0 : ¬cond0_0 i) (hc1 : cond0_1 i) (xo15 xo16 : Vec Ideal S1x1x128 .f32) :
    out0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo15 xo16 =
      (fun T : Blocks => k0_pay2 T.wh T.bc T.bh) ⟨BitVec.ofNat 32 (i 1).val, x0, x1, x2, x3, x4, x5, x6, x7, x8, x9, x10, x11, x12, x13⟩ := by
  unfold out0_B_18
  rw [View.read_writes_eq_canon _ _ _ (cover0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xo15 xo16)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S1x256x2048) hz3, View.ld_unit_zero (S := S1x256x512) hz3,
    View.ld_unit_zero (S := S1x1x128) hz3, View.ld_unit_zero (S := S256x256) hz2, View.ld_unit_zero (S := S256x1) hz2]

end Points

end Cert.KernelIdeal.Whole

end
-- ==== Proof.Value.Point.lean ====
module

public import proofs.«01_k».proof.Proof.Value.Body

/-!
A point's five output blocks at a lane, in the problem's own terms, for input blocks that hold one image pair's rows.
-/

@[expose] public section

set_option maxRecDepth 16384

noncomputable section

namespace Cert.KernelIdeal.Whole

open Idealize.ShloMosaic Idealize.ShloMosaic.Pointwise
open Cert.KernelIdeal Cert.KernelIdeal.Gen Cert.Blend

/-- The blocks hold tile `t` of the data's planes, and its weights. -/
structure Holds (T : Blocks) (D : Data) (t : ℕ) : Prop where
  lt : t < 8
  a1 : T.a1 = BitVec.ofNat 32 t
  pf : ∀ r, Padded (D.front r)
  pb : ∀ r, Padded (D.back r)
  fc : ∀ (r : Fin 256) (p : Fin 2048), T.fc (ix3 0 r p) = D.front r (16 * t + p / 128 + 3) (p % 128 + 3)
  ft : t ≠ 0 → ∀ (r : Fin 256) (p : Fin 512), T.ft (ix3 0 r p) = D.front r (16 * t + p / 128 - 1) (p % 128 + 3)
  fb : t ≠ 7 → ∀ (r : Fin 256) (p : Fin 512), T.fb (ix3 0 r p) = D.front r (16 * t + p / 128 + 19) (p % 128 + 3)
  bc : ∀ (r : Fin 256) (p : Fin 2048), T.bc (ix3 0 r p) = D.back r (16 * t + p / 128 + 3) (p % 128 + 3)
  bt : t ≠ 0 → ∀ (r : Fin 256) (p : Fin 512), T.bt (ix3 0 r p) = D.back r (16 * t + p / 128 - 1) (p % 128 + 3)
  bb : t ≠ 7 → ∀ (r : Fin 256) (p : Fin 512), T.bb (ix3 0 r p) = D.back r (16 * t + p / 128 + 19) (p % 128 + 3)
  we : ∀ o k : Fin 256, T.we (ix2 o k) = D.we o k
  be : ∀ o : Fin 256, T.be (ix2 o 0) = D.be o
  wf : ∀ o k : Fin 256, T.wf (ix2 o k) = D.wf o k
  bf : ∀ o : Fin 256, T.bf (ix2 o 0) = D.bf o
  wg : ∀ o k : Fin 256, T.wg (ix2 o k) = D.wg o k
  bg : ∀ o : Fin 256, T.bg (ix2 o 0) = D.bg o
  wh : ∀ o k : Fin 256, T.wh (ix2 o k) = D.wh o k
  bh : ∀ o : Fin 256, T.bh (ix2 o 0) = D.bh o

namespace Holds

variable {T : Blocks} {D : Data} {t : ℕ} (H : Holds T D t) (r : Fin 256) (p : Fin 2048)
include H

/-- The first image's assembled tile. -/
theorem front (q : Fin 3072) (hq : 128 ≤ q.val) : T.front (ix2 r q) = D.front r (16 * t + q / 128 - 1) (q % 128 + 3) :=
  tileAsm_apply t H.lt T.a1 H.a1 T.ft T.fb T.fc D.front (fun r => (H.pf r).rows) H.ft H.fb H.fc r q hq

/-- The second image's. -/
theorem back (q : Fin 3072) (hq : 128 ≤ q.val) : T.back (ix2 r q) = D.back r (16 * t + q / 128 - 1) (q % 128 + 3) :=
  tileAsm_apply t H.lt T.a1 H.a1 T.bt T.bb T.bc D.back (fun r => (H.pb r).rows) H.bt H.bb H.bc r q hq

/-- The first image normalized. -/
theorem nrmF : tileNrm T.front T.fc (ix2 r p) = nrm (D.front r) (16 * t + p / 128) (p % 128) :=
  tileNrm_apply t r _ (H.pf r).cols T.front (H.front r) p T.fc (H.fc r p)

/-- The second image normalized. -/
theorem nrmB : tileNrm T.back T.bc (ix2 r p) = nrm (D.back r) (16 * t + p / 128) (p % 128) :=
  tileNrm_apply t r _ (H.pb r).cols T.back (H.back r) p T.bc (H.bc r p)

/-- The four convolutions at a lane. -/
theorem FF : T.FF (ix2 r p) = D.FF (16 * t + p / 128) (p % 128) r := by
  unfold Blocks.FF Data.FF
  rw [tileConv_apply]
  simp only [H.nrmF, H.wf, H.bf]

theorem GG : T.GG (ix2 r p) = D.GG (16 * t + p / 128) (p % 128) r := by
  unfold Blocks.GG Data.GG
  rw [tileConv_apply]
  simp only [H.nrmB, H.wg, H.bg]

theorem HH : T.HH (ix2 r p) = D.HH (16 * t + p / 128) (p % 128) r := by
  have e : T.HH = tileConv T.wh T.bh (shapeCast S256x2048 T.bc shapeCasts_S1x256x2048_S256x2048) := rfl
  unfold Data.HH
  rw [e, tileConv_apply]
  have e2 : ∀ k : Fin 256, shapeCast S256x2048 T.bc shapeCasts_S1x256x2048_S256x2048 (ix2 k p) =
      D.back k (16 * t + p / 128 + 3) (p % 128 + 3) := fun k => by
    rw [← H.bc k p]
    pointwise []
  simp only [e2, H.wh, H.bh]

theorem EE : T.EE (ix2 r p) = D.EE (16 * t + p / 128) (p % 128) r := by
  unfold Blocks.EE Data.EE
  rw [tileConv_apply]
  simp only [addf_apply, mulf_apply, Ideal.addf_def, Ideal.mulf_def, H.nrmF, H.we, H.be,
    fun k => tileDev_apply t k _ (H.pb k).cols T.back (H.back k) p,
    fun k => tileMean_apply t k _ (H.pb k).cols T.back (H.back k) p]

/-- The similarity row. -/
theorem row : k0_pay33 T.GG T.ff0 (k0_pay32 T.bf) (ix2 0 p) = D.S (16 * t + p / 128) (p % 128) := by
  rw [pay33_apply]
  have e : addf T.ff0 (k0_pay32 T.bf) = T.FF := rfl
  unfold Data.S
  simp only [e, H.FF, H.GG]

/-- The similarity stored at a lane. -/
theorem simBlock : k0_pay34 T.GG T.ff0 (k0_pay32 T.bf) (ix3 0 0 p) = D.S (16 * t + p / 128) (p % 128) := by
  rw [← H.row p]
  pointwise [k0_pay34]

/-- The point's minimum. -/
theorem simMin : k0_pay35 T.GG T.ff0 (k0_pay32 T.bf) = ⨅ p : Fin 2048, D.S (16 * t + p / 128) (p % 128) := by
  simp only [← H.row]
  pointwise [k0_pay35]
  rw [show Ideal.ofBits .f32 0x7F800000#32 = (⊤ : EReal) by simp [Ideal.ofBits, Ideal.ieee]]
  refine (Finset.inf_univ_eq_iInf (fun x : Fin 1 × Fin 2048 => k0_pay33 T.GG T.ff0 (k0_pay32 T.bf) (ix2 0 x.2))).trans ?_
  rw [iInf_prod, iInf_unique]

/-- The point's maximum. -/
theorem simMax : k0_pay36 T.GG T.ff0 (k0_pay32 T.bf) = ⨆ p : Fin 2048, D.S (16 * t + p / 128) (p % 128) := by
  simp only [← H.row]
  pointwise [k0_pay36]
  rw [show Ideal.ofBits .f32 0xFF800000#32 = (⊥ : EReal) by simp [Ideal.ofBits, Ideal.ieee]]
  refine (Finset.sup_univ_eq_iSup (fun x : Fin 1 × Fin 2048 => k0_pay33 T.GG T.ff0 (k0_pay32 T.bf) (ix2 0 x.2))).trans ?_
  rw [iSup_prod, iSup_unique]

/-- The convolution of the second image stored there. -/
theorem hhBlock : k0_pay2 T.wh T.bc T.bh (ix3 0 r p) = D.HH (16 * t + p / 128) (p % 128) r := by
  rw [← H.HH r p]
  pointwise [k0_pay2]
  rfl

/-- The difference stored there. -/
theorem ddBlock : k0_pay3 T.EE T.wh T.bc T.bh (ix3 0 r p) =
    D.EE (16 * t + p / 128) (p % 128) r - D.HH (16 * t + p / 128) (p % 128) r := by
  rw [← H.HH r p, ← H.EE r p]
  pointwise [k0_pay3]
  rfl

end Holds

end Cert.KernelIdeal.Whole

end
-- ==== Proof.Value.Inputs.lean ====
module

public import proofs.«01_k».proof.Proof.KernelIdeal.Fold0
public import proofs.«01_k».proof.Proof.Value.Point

/-!
The first launch's input blocks at a grid point, read off the arguments: they hold the point's tile of its sample.
-/

@[expose] public section

set_option maxRecDepth 16384

noncomputable section

namespace Cert.KernelIdeal.Whole

open Idealize.ShloMosaic Idealize.ShloMosaic.TcCoe Idealize.ShloMosaic.Tactic Idealize.ShloMosaic.Pointwise
open Idealize.SL.Sem
open Cert.KernelIdeal Cert.KernelIdeal.Gen Cert.Blend

variable (m : (ℓ : Loc nD τ sig) → Buf (Elt Ideal) ℓ) (ρ : Dev nD → PrngReg) (c : Dev nD)

/-- The images as the first launch takes them: each channel one row of lanes. -/
theorem V1_v0 : V1 m ρ c main_v0 =
    shapeCast S8x256x16384 (m ((c : Thread nD τ).loc main_arg0)) shapeCasts_S8x256x128x128_S8x256x16384 := by
  show StableHlo.after hostOps0 (W0 m ρ c) (Proc.devRef .tc main_v0) = _
  after_results
  rfl
theorem V1_v1 : V1 m ρ c main_v1 =
    shapeCast S8x256x16384 (m ((c : Thread nD τ).loc main_arg1)) shapeCasts_S8x256x128x128_S8x256x16384 := by
  show StableHlo.after hostOps0 (W0 m ρ c) (Proc.devRef .tc main_v1) = _
  after_results
  rfl

/-- The biases as it takes them: columns. -/
theorem V1_v2 : V1 m ρ c main_v2 = shapeCast S256x1 (m ((c : Thread nD τ).loc main_arg4)) shapeCasts_S256_S256x1 := by
  show StableHlo.after hostOps0 (W0 m ρ c) (Proc.devRef .tc main_v2) = _
  after_results
  rfl
theorem V1_v3 : V1 m ρ c main_v3 = shapeCast S256x1 (m ((c : Thread nD τ).loc main_arg6)) shapeCasts_S256_S256x1 := by
  show StableHlo.after hostOps0 (W0 m ρ c) (Proc.devRef .tc main_v3) = _
  after_results
  rfl
theorem V1_v4 : V1 m ρ c main_v4 = shapeCast S256x1 (m ((c : Thread nD τ).loc main_arg8)) shapeCasts_S256_S256x1 := by
  show StableHlo.after hostOps0 (W0 m ρ c) (Proc.devRef .tc main_v4) = _
  after_results
  rfl
theorem V1_v5 : V1 m ρ c main_v5 = shapeCast S256x1 (m ((c : Thread nD τ).loc main_arg10)) shapeCasts_S256_S256x1 := by
  show StableHlo.after hostOps0 (W0 m ρ c) (Proc.devRef .tc main_v5) = _
  after_results
  rfl

/-- A lane of a flattened image is its row and column. -/
theorem flat_apply (x : Vec Ideal S8x256x128x128 .f32) (b : Fin 8) (r : Fin 256) (q : Fin 16384) :
    shapeCast S8x256x16384 x shapeCasts_S8x256x128x128_S8x256x16384 (ix3 b r q) =
      x (ix4 b r ⟨q / 128, by omega⟩ ⟨q % 128, by omega⟩) := by
  pointwise []

/-- An element of a bias column is the bias's. -/
theorem column_apply (x : Vec Ideal S256 .f32) (o : Fin 256) :
    shapeCast S256x1 x shapeCasts_S256_S256x1 (ix2 o 0) = x (ix1 o) := by
  pointwise []

/-- The windows' block indices at a point: its sample and its tile. -/
theorem index0_0 : ∀ (t : Fin grid0.N) (a : Fin 3), win0_0.index t a = ![t.val / 8, 0, t.val % 8] a := by decide +kernel
theorem index0_1 : ∀ (t : Fin grid0.N) (a : Fin 3), win0_1.index t a = ![t.val / 8, 0, 4 * (t.val % 8) - 1] a := by decide +kernel
theorem index0_2 : ∀ (t : Fin grid0.N) (a : Fin 3), win0_2.index t a = ![t.val / 8, 0, min (4 * (t.val % 8) + 4) 31] a := by decide +kernel
theorem index0_3 : ∀ (t : Fin grid0.N) (a : Fin 3), win0_3.index t a = ![t.val / 8, 0, t.val % 8] a := by decide +kernel
theorem index0_4 : ∀ (t : Fin grid0.N) (a : Fin 3), win0_4.index t a = ![t.val / 8, 0, 4 * (t.val % 8) - 1] a := by decide +kernel
theorem index0_5 : ∀ (t : Fin grid0.N) (a : Fin 3), win0_5.index t a = ![t.val / 8, 0, min (4 * (t.val % 8) + 4) 31] a := by decide +kernel

section
variable (V : (c : Dev nD) → (b : Ref sig .tc) → Buf (Elt Ideal) ((c : Thread nD τ).loc b))

/-- A window's block at a place: the array at the block's place there. -/
theorem block0_0 (t : Fin grid0.N) (r : Fin 256) (p : Fin 2048) (ht : t.val < 64) :
    iblk0 V c 0 t (ix3 0 r p) = V c main_v0 (ix3 ⟨t.val / 8, by omega⟩ r ⟨t.val % 8 * 2048 + p, by omega⟩) := by
  unfold iblk0
  rw [View.read_apply]
  show V c main_v0 _ = _
  congr 1; funext a; apply Fin.ext
  have e := index0_0 t a
  match a with
  | ⟨0, _⟩ => show win0_0.index t 0 * 1 + 1 * 0 = t.val / 8; rw [show win0_0.index t 0 = t.val / 8 from e]; omega
  | ⟨1, _⟩ => show win0_0.index t 1 * 256 + 1 * r.val = r.val; rw [show win0_0.index t 1 = 0 from e]; omega
  | ⟨2, _⟩ => show win0_0.index t 2 * 2048 + 1 * p.val = t.val % 8 * 2048 + p; rw [show win0_0.index t 2 = t.val % 8 from e]; omega
theorem block0_1 (t : Fin grid0.N) (r : Fin 256) (p : Fin 512) (ht : t.val < 64) :
    iblk0 V c 1 t (ix3 0 r p) = V c main_v0 (ix3 ⟨t.val / 8, by omega⟩ r ⟨(4 * (t.val % 8) - 1) * 512 + p, by omega⟩) := by
  unfold iblk0
  rw [View.read_apply]
  show V c main_v0 _ = _
  congr 1; funext a; apply Fin.ext
  have e := index0_1 t a
  match a with
  | ⟨0, _⟩ => show win0_1.index t 0 * 1 + 1 * 0 = t.val / 8; rw [show win0_1.index t 0 = t.val / 8 from e]; omega
  | ⟨1, _⟩ => show win0_1.index t 1 * 256 + 1 * r.val = r.val; rw [show win0_1.index t 1 = 0 from e]; omega
  | ⟨2, _⟩ => show win0_1.index t 2 * 512 + 1 * p.val = (4 * (t.val % 8) - 1) * 512 + p; rw [show win0_1.index t 2 = (4 * (t.val % 8) - 1) from e]; omega
theorem block0_2 (t : Fin grid0.N) (r : Fin 256) (p : Fin 512) (ht : t.val < 64) :
    iblk0 V c 2 t (ix3 0 r p) = V c main_v0 (ix3 ⟨t.val / 8, by omega⟩ r ⟨min (4 * (t.val % 8) + 4) 31 * 512 + p, by omega⟩) := by
  unfold iblk0
  rw [View.read_apply]
  show V c main_v0 _ = _
  congr 1; funext a; apply Fin.ext
  have e := index0_2 t a
  match a with
  | ⟨0, _⟩ => show win0_2.index t 0 * 1 + 1 * 0 = t.val / 8; rw [show win0_2.index t 0 = t.val / 8 from e]; omega
  | ⟨1, _⟩ => show win0_2.index t 1 * 256 + 1 * r.val = r.val; rw [show win0_2.index t 1 = 0 from e]; omega
  | ⟨2, _⟩ => show win0_2.index t 2 * 512 + 1 * p.val = min (4 * (t.val % 8) + 4) 31 * 512 + p; rw [show win0_2.index t 2 = min (4 * (t.val % 8) + 4) 31 from e]; omega
theorem block0_3 (t : Fin grid0.N) (r : Fin 256) (p : Fin 2048) (ht : t.val < 64) :
    iblk0 V c 3 t (ix3 0 r p) = V c main_v1 (ix3 ⟨t.val / 8, by omega⟩ r ⟨t.val % 8 * 2048 + p, by omega⟩) := by
  unfold iblk0
  rw [View.read_apply]
  show V c main_v1 _ = _
  congr 1; funext a; apply Fin.ext
  have e := index0_3 t a
  match a with
  | ⟨0, _⟩ => show win0_3.index t 0 * 1 + 1 * 0 = t.val / 8; rw [show win0_3.index t 0 = t.val / 8 from e]; omega
  | ⟨1, _⟩ => show win0_3.index t 1 * 256 + 1 * r.val = r.val; rw [show win0_3.index t 1 = 0 from e]; omega
  | ⟨2, _⟩ => show win0_3.index t 2 * 2048 + 1 * p.val = t.val % 8 * 2048 + p; rw [show win0_3.index t 2 = t.val % 8 from e]; omega
theorem block0_4 (t : Fin grid0.N) (r : Fin 256) (p : Fin 512) (ht : t.val < 64) :
    iblk0 V c 4 t (ix3 0 r p) = V c main_v1 (ix3 ⟨t.val / 8, by omega⟩ r ⟨(4 * (t.val % 8) - 1) * 512 + p, by omega⟩) := by
  unfold iblk0
  rw [View.read_apply]
  show V c main_v1 _ = _
  congr 1; funext a; apply Fin.ext
  have e := index0_4 t a
  match a with
  | ⟨0, _⟩ => show win0_4.index t 0 * 1 + 1 * 0 = t.val / 8; rw [show win0_4.index t 0 = t.val / 8 from e]; omega
  | ⟨1, _⟩ => show win0_4.index t 1 * 256 + 1 * r.val = r.val; rw [show win0_4.index t 1 = 0 from e]; omega
  | ⟨2, _⟩ => show win0_4.index t 2 * 512 + 1 * p.val = (4 * (t.val % 8) - 1) * 512 + p; rw [show win0_4.index t 2 = (4 * (t.val % 8) - 1) from e]; omega
theorem block0_5 (t : Fin grid0.N) (r : Fin 256) (p : Fin 512) (ht : t.val < 64) :
    iblk0 V c 5 t (ix3 0 r p) = V c main_v1 (ix3 ⟨t.val / 8, by omega⟩ r ⟨min (4 * (t.val % 8) + 4) 31 * 512 + p, by omega⟩) := by
  unfold iblk0
  rw [View.read_apply]
  show V c main_v1 _ = _
  congr 1; funext a; apply Fin.ext
  have e := index0_5 t a
  match a with
  | ⟨0, _⟩ => show win0_5.index t 0 * 1 + 1 * 0 = t.val / 8; rw [show win0_5.index t 0 = t.val / 8 from e]; omega
  | ⟨1, _⟩ => show win0_5.index t 1 * 256 + 1 * r.val = r.val; rw [show win0_5.index t 1 = 0 from e]; omega
  | ⟨2, _⟩ => show win0_5.index t 2 * 512 + 1 * p.val = min (4 * (t.val % 8) + 4) 31 * 512 + p; rw [show win0_5.index t 2 = min (4 * (t.val % 8) + 4) 31 from e]; omega

/-- A weight's block is the weight. -/
theorem block0_6 (t : Fin grid0.N) : iblk0 V c 6 t = V c main_arg3 :=
  Memref.read_access_unit_zero _ _ (funext fun a => by match a with | ⟨0, _⟩ => rfl | ⟨1, _⟩ => rfl) _ _
theorem block0_7 (t : Fin grid0.N) : iblk0 V c 7 t = V c main_v2 :=
  Memref.read_access_unit_zero _ _ (funext fun a => by match a with | ⟨0, _⟩ => rfl | ⟨1, _⟩ => rfl) _ _
theorem block0_8 (t : Fin grid0.N) : iblk0 V c 8 t = V c main_arg5 :=
  Memref.read_access_unit_zero _ _ (funext fun a => by match a with | ⟨0, _⟩ => rfl | ⟨1, _⟩ => rfl) _ _
theorem block0_9 (t : Fin grid0.N) : iblk0 V c 9 t = V c main_v3 :=
  Memref.read_access_unit_zero _ _ (funext fun a => by match a with | ⟨0, _⟩ => rfl | ⟨1, _⟩ => rfl) _ _
theorem block0_10 (t : Fin grid0.N) : iblk0 V c 10 t = V c main_arg7 :=
  Memref.read_access_unit_zero _ _ (funext fun a => by match a with | ⟨0, _⟩ => rfl | ⟨1, _⟩ => rfl) _ _
theorem block0_11 (t : Fin grid0.N) : iblk0 V c 11 t = V c main_v4 :=
  Memref.read_access_unit_zero _ _ (funext fun a => by match a with | ⟨0, _⟩ => rfl | ⟨1, _⟩ => rfl) _ _
theorem block0_12 (t : Fin grid0.N) : iblk0 V c 12 t = V c main_arg9 :=
  Memref.read_access_unit_zero _ _ (funext fun a => by match a with | ⟨0, _⟩ => rfl | ⟨1, _⟩ => rfl) _ _
theorem block0_13 (t : Fin grid0.N) : iblk0 V c 13 t = V c main_v5 :=
  Memref.read_access_unit_zero _ _ (funext fun a => by match a with | ⟨0, _⟩ => rfl | ⟨1, _⟩ => rfl) _ _

end

/-- A sample's data, of the arguments. -/
def dataAt (b : Fin 8) : Data :=
  data (m ((c : Thread nD τ).loc main_arg0)) (m ((c : Thread nD τ).loc main_arg1))
    (m ((c : Thread nD τ).loc main_arg3)) (m ((c : Thread nD τ).loc main_arg4))
    (m ((c : Thread nD τ).loc main_arg5)) (m ((c : Thread nD τ).loc main_arg6))
    (m ((c : Thread nD τ).loc main_arg7)) (m ((c : Thread nD τ).loc main_arg8))
    (m ((c : Thread nD τ).loc main_arg9)) (m ((c : Thread nD τ).loc main_arg10)) b

/-- The blocks the point reads. -/
def blocksAt (t : Fin grid0.N) : Blocks :=
  ⟨BitVec.ofNat 32 (grid0.coords t 1).val, iblk0 (V1 m ρ) c 0 t, iblk0 (V1 m ρ) c 1 t, iblk0 (V1 m ρ) c 2 t,
    iblk0 (V1 m ρ) c 3 t, iblk0 (V1 m ρ) c 4 t, iblk0 (V1 m ρ) c 5 t, iblk0 (V1 m ρ) c 6 t, iblk0 (V1 m ρ) c 7 t,
    iblk0 (V1 m ρ) c 8 t, iblk0 (V1 m ρ) c 9 t, iblk0 (V1 m ρ) c 10 t, iblk0 (V1 m ρ) c 11 t, iblk0 (V1 m ρ) c 12 t,
    iblk0 (V1 m ρ) c 13 t⟩

/-- A point's second coordinate is its tile. -/
theorem coord0_1 : ∀ t : Fin grid0.N, (grid0.coords t 1).val = t.val % 8 := by decide +kernel

/-- A lane of the first image is the plane's. -/
theorem front_lane (b : Fin 8) (r : Fin 256) (q : Fin 16384) (h l : ℕ) (hh : h = q / 128 + 3) (hl : l = q % 128 + 3) :
    V1 m ρ c main_v0 (ix3 b r q) = (dataAt m c b).front r h l := by
  rw [V1_v0]
  exact (flat_apply _ b r q).trans (plane_in _ b r ⟨q / 128, by omega⟩ ⟨q % 128, by omega⟩ h l hh hl).symm

/-- A lane of the second. -/
theorem back_lane (b : Fin 8) (r : Fin 256) (q : Fin 16384) (h l : ℕ) (hh : h = q / 128 + 3) (hl : l = q % 128 + 3) :
    V1 m ρ c main_v1 (ix3 b r q) = (dataAt m c b).back r h l := by
  rw [V1_v1]
  exact (flat_apply _ b r q).trans (plane_in _ b r ⟨q / 128, by omega⟩ ⟨q % 128, by omega⟩ h l hh hl).symm

set_option maxHeartbeats 4000000 in
/-- At every point the blocks hold the point's tile of its sample. -/
theorem holds_at (t : Fin grid0.N) (ht : t.val < 64) :
    Holds (blocksAt m ρ c t) (dataAt m c ⟨t.val / 8, by omega⟩) (t.val % 8) where
  lt := by omega
  a1 := congrArg (BitVec.ofNat 32) (coord0_1 t)
  pf r := plane_padded _ _ r
  pb r := plane_padded _ _ r
  fc r p := (block0_0 c (V1 m ρ) t r p ht).trans (front_lane m ρ c _ r _ _ _ (by dsimp only; omega) (by dsimp only; omega))
  ft h r p := (block0_1 c (V1 m ρ) t r p ht).trans (front_lane m ρ c _ r _ _ _ (by dsimp only; omega) (by dsimp only; omega))
  fb h r p := (block0_2 c (V1 m ρ) t r p ht).trans (front_lane m ρ c _ r _ _ _ (by dsimp only; omega) (by dsimp only; omega))
  bc r p := (block0_3 c (V1 m ρ) t r p ht).trans (back_lane m ρ c _ r _ _ _ (by dsimp only; omega) (by dsimp only; omega))
  bt h r p := (block0_4 c (V1 m ρ) t r p ht).trans (back_lane m ρ c _ r _ _ _ (by dsimp only; omega) (by dsimp only; omega))
  bb h r p := (block0_5 c (V1 m ρ) t r p ht).trans (back_lane m ρ c _ r _ _ _ (by dsimp only; omega) (by dsimp only; omega))
  we o k := (congrFun (block0_6 c (V1 m ρ) t) _).trans (congrFun (W1_args m ρ c main_arg3 (by decide)) _)
  wf o k := (congrFun (block0_8 c (V1 m ρ) t) _).trans (congrFun (W1_args m ρ c main_arg5 (by decide)) _)
  wg o k := (congrFun (block0_10 c (V1 m ρ) t) _).trans (congrFun (W1_args m ρ c main_arg7 (by decide)) _)
  wh o k := (congrFun (block0_12 c (V1 m ρ) t) _).trans (congrFun (W1_args m ρ c main_arg9 (by decide)) _)
  be o := (congrFun (block0_7 c (V1 m ρ) t) _).trans ((congrFun (V1_v2 m ρ c) _).trans (column_apply _ o))
  bf o := (congrFun (block0_9 c (V1 m ρ) t) _).trans ((congrFun (V1_v3 m ρ c) _).trans (column_apply _ o))
  bg o := (congrFun (block0_11 c (V1 m ρ) t) _).trans ((congrFun (V1_v4 m ρ c) _).trans (column_apply _ o))
  bh o := (congrFun (block0_13 c (V1 m ρ) t) _).trans ((congrFun (V1_v5 m ρ c) _).trans (column_apply _ o))

end Cert.KernelIdeal.Whole

end
-- ==== Proof.Value.Outs.lean ====
module

public import proofs.«01_k».proof.Proof.Value.Inputs

/-!
What the first launch's points leave in its outputs' blocks.
-/

@[expose] public section

set_option maxRecDepth 16384

noncomputable section

namespace Cert.KernelIdeal.Whole

open Idealize.ShloMosaic Idealize.ShloMosaic.TcCoe Idealize.ShloMosaic.Tactic Idealize.ShloMosaic.Pointwise
open Idealize.SL.Sem
open Cert.KernelIdeal Cert.KernelIdeal.Gen Cert.Blend

variable (m : (ℓ : Loc nD τ sig) → Buf (Elt Ideal) ℓ) (ρ : Dev nD → PrngReg) (c : Dev nD) (t : Fin cfg0.N)

/-- A point's output blocks, by its case, as functions of the blocks it reads. -/
theorem left_A_14 (h : t.val % 8 = 0) (h1 : ¬1 ≤ t.val % 8) : (outsAt0 (V1 m ρ) c t.val t.isLt).1 =
    out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h) (fun h' => h1 ((hcond0_1 t).mp h')) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) := by
  rw [outsAt0_A (V1 m ρ) c t h h1]
theorem read_A_14 (h : t.val % 8 = 0) (h1 : ¬1 ≤ t.val % 8) :
    out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h) (fun h' => h1 ((hcond0_1 t).mp h')) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) =
      (fun T : Blocks => k0_pay34 T.GG T.ff0 (k0_pay32 T.bf)) (blocksAt m ρ c t) :=
  out_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) _ _
theorem left_B_14 (h : ¬t.val % 8 = 0) (h1 : 1 ≤ t.val % 8) : (outsAt0 (V1 m ρ) c t.val t.isLt).1 =
    out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h' => h ((hcond0_0 t).mp h')) ((hcond0_1 t).mpr h1) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) (outsAt0 (V1 m ρ) c (t.val - 1) (Nat.lt_of_le_of_lt (Nat.sub_le _ _) t.isLt)).2.1 (outsAt0 (V1 m ρ) c (t.val - 1) (Nat.lt_of_le_of_lt (Nat.sub_le _ _) t.isLt)).2.2.1 := by
  rw [outsAt0_B (V1 m ρ) c t h h1]
theorem read_B_14 (h : ¬t.val % 8 = 0) (h1 : 1 ≤ t.val % 8) :
    out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h' => h ((hcond0_0 t).mp h')) ((hcond0_1 t).mpr h1) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) (outsAt0 (V1 m ρ) c (t.val - 1) (Nat.lt_of_le_of_lt (Nat.sub_le _ _) t.isLt)).2.1 (outsAt0 (V1 m ρ) c (t.val - 1) (Nat.lt_of_le_of_lt (Nat.sub_le _ _) t.isLt)).2.2.1 =
      (fun T : Blocks => k0_pay34 T.GG T.ff0 (k0_pay32 T.bf)) (blocksAt m ρ c t) :=
  out_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) _ _ (outsAt0 (V1 m ρ) c (t.val - 1) (Nat.lt_of_le_of_lt (Nat.sub_le _ _) t.isLt)).2.1 (outsAt0 (V1 m ρ) c (t.val - 1) (Nat.lt_of_le_of_lt (Nat.sub_le _ _) t.isLt)).2.2.1
theorem left_A_15 (h : t.val % 8 = 0) (h1 : ¬1 ≤ t.val % 8) : (outsAt0 (V1 m ρ) c t.val t.isLt).2.1 =
    out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h) (fun h' => h1 ((hcond0_1 t).mp h')) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) := by
  rw [outsAt0_A (V1 m ρ) c t h h1]
theorem read_A_15 (h : t.val % 8 = 0) (h1 : ¬1 ≤ t.val % 8) :
    out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h) (fun h' => h1 ((hcond0_1 t).mp h')) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) =
      (fun T : Blocks => k0_pay37 T.GG T.ff0 (k0_pay32 T.bf)) (blocksAt m ρ c t) :=
  out_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) _ _
theorem left_B_15 (h : ¬t.val % 8 = 0) (h1 : 1 ≤ t.val % 8) : (outsAt0 (V1 m ρ) c t.val t.isLt).2.1 =
    out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h' => h ((hcond0_0 t).mp h')) ((hcond0_1 t).mpr h1) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) (outsAt0 (V1 m ρ) c (t.val - 1) (Nat.lt_of_le_of_lt (Nat.sub_le _ _) t.isLt)).2.1 (outsAt0 (V1 m ρ) c (t.val - 1) (Nat.lt_of_le_of_lt (Nat.sub_le _ _) t.isLt)).2.2.1 := by
  rw [outsAt0_B (V1 m ρ) c t h h1]
theorem read_B_15 (h : ¬t.val % 8 = 0) (h1 : 1 ≤ t.val % 8) :
    out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h' => h ((hcond0_0 t).mp h')) ((hcond0_1 t).mpr h1) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) (outsAt0 (V1 m ρ) c (t.val - 1) (Nat.lt_of_le_of_lt (Nat.sub_le _ _) t.isLt)).2.1 (outsAt0 (V1 m ρ) c (t.val - 1) (Nat.lt_of_le_of_lt (Nat.sub_le _ _) t.isLt)).2.2.1 =
      (fun T : Blocks => k0_pay39 T.GG T.ff0 (k0_pay32 T.bf) (outsAt0 (V1 m ρ) c (t.val - 1) (Nat.lt_of_le_of_lt (Nat.sub_le _ _) t.isLt)).2.1) (blocksAt m ρ c t) :=
  out_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) _ _ (outsAt0 (V1 m ρ) c (t.val - 1) (Nat.lt_of_le_of_lt (Nat.sub_le _ _) t.isLt)).2.1 (outsAt0 (V1 m ρ) c (t.val - 1) (Nat.lt_of_le_of_lt (Nat.sub_le _ _) t.isLt)).2.2.1
theorem left_A_16 (h : t.val % 8 = 0) (h1 : ¬1 ≤ t.val % 8) : (outsAt0 (V1 m ρ) c t.val t.isLt).2.2.1 =
    out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h) (fun h' => h1 ((hcond0_1 t).mp h')) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) := by
  rw [outsAt0_A (V1 m ρ) c t h h1]
theorem read_A_16 (h : t.val % 8 = 0) (h1 : ¬1 ≤ t.val % 8) :
    out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h) (fun h' => h1 ((hcond0_1 t).mp h')) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) =
      (fun T : Blocks => k0_pay38 T.GG T.ff0 (k0_pay32 T.bf)) (blocksAt m ρ c t) :=
  out_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) _ _
theorem left_B_16 (h : ¬t.val % 8 = 0) (h1 : 1 ≤ t.val % 8) : (outsAt0 (V1 m ρ) c t.val t.isLt).2.2.1 =
    out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h' => h ((hcond0_0 t).mp h')) ((hcond0_1 t).mpr h1) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) (outsAt0 (V1 m ρ) c (t.val - 1) (Nat.lt_of_le_of_lt (Nat.sub_le _ _) t.isLt)).2.1 (outsAt0 (V1 m ρ) c (t.val - 1) (Nat.lt_of_le_of_lt (Nat.sub_le _ _) t.isLt)).2.2.1 := by
  rw [outsAt0_B (V1 m ρ) c t h h1]
theorem read_B_16 (h : ¬t.val % 8 = 0) (h1 : 1 ≤ t.val % 8) :
    out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h' => h ((hcond0_0 t).mp h')) ((hcond0_1 t).mpr h1) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) (outsAt0 (V1 m ρ) c (t.val - 1) (Nat.lt_of_le_of_lt (Nat.sub_le _ _) t.isLt)).2.1 (outsAt0 (V1 m ρ) c (t.val - 1) (Nat.lt_of_le_of_lt (Nat.sub_le _ _) t.isLt)).2.2.1 =
      (fun T : Blocks => k0_pay40 T.GG T.ff0 (k0_pay32 T.bf) (outsAt0 (V1 m ρ) c (t.val - 1) (Nat.lt_of_le_of_lt (Nat.sub_le _ _) t.isLt)).2.2.1) (blocksAt m ρ c t) :=
  out_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) _ _ (outsAt0 (V1 m ρ) c (t.val - 1) (Nat.lt_of_le_of_lt (Nat.sub_le _ _) t.isLt)).2.1 (outsAt0 (V1 m ρ) c (t.val - 1) (Nat.lt_of_le_of_lt (Nat.sub_le _ _) t.isLt)).2.2.1
theorem left_A_17 (h : t.val % 8 = 0) (h1 : ¬1 ≤ t.val % 8) : (outsAt0 (V1 m ρ) c t.val t.isLt).2.2.2.1 =
    out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h) (fun h' => h1 ((hcond0_1 t).mp h')) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) := by
  rw [outsAt0_A (V1 m ρ) c t h h1]
theorem read_A_17 (h : t.val % 8 = 0) (h1 : ¬1 ≤ t.val % 8) :
    out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h) (fun h' => h1 ((hcond0_1 t).mp h')) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) =
      (fun T : Blocks => k0_pay3 T.EE T.wh T.bc T.bh) (blocksAt m ρ c t) :=
  out_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) _ _
theorem left_B_17 (h : ¬t.val % 8 = 0) (h1 : 1 ≤ t.val % 8) : (outsAt0 (V1 m ρ) c t.val t.isLt).2.2.2.1 =
    out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h' => h ((hcond0_0 t).mp h')) ((hcond0_1 t).mpr h1) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) (outsAt0 (V1 m ρ) c (t.val - 1) (Nat.lt_of_le_of_lt (Nat.sub_le _ _) t.isLt)).2.1 (outsAt0 (V1 m ρ) c (t.val - 1) (Nat.lt_of_le_of_lt (Nat.sub_le _ _) t.isLt)).2.2.1 := by
  rw [outsAt0_B (V1 m ρ) c t h h1]
theorem read_B_17 (h : ¬t.val % 8 = 0) (h1 : 1 ≤ t.val % 8) :
    out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h' => h ((hcond0_0 t).mp h')) ((hcond0_1 t).mpr h1) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) (outsAt0 (V1 m ρ) c (t.val - 1) (Nat.lt_of_le_of_lt (Nat.sub_le _ _) t.isLt)).2.1 (outsAt0 (V1 m ρ) c (t.val - 1) (Nat.lt_of_le_of_lt (Nat.sub_le _ _) t.isLt)).2.2.1 =
      (fun T : Blocks => k0_pay3 T.EE T.wh T.bc T.bh) (blocksAt m ρ c t) :=
  out_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) _ _ (outsAt0 (V1 m ρ) c (t.val - 1) (Nat.lt_of_le_of_lt (Nat.sub_le _ _) t.isLt)).2.1 (outsAt0 (V1 m ρ) c (t.val - 1) (Nat.lt_of_le_of_lt (Nat.sub_le _ _) t.isLt)).2.2.1
theorem left_A_18 (h : t.val % 8 = 0) (h1 : ¬1 ≤ t.val % 8) : (outsAt0 (V1 m ρ) c t.val t.isLt).2.2.2.2 =
    out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h) (fun h' => h1 ((hcond0_1 t).mp h')) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) := by
  rw [outsAt0_A (V1 m ρ) c t h h1]
theorem read_A_18 (h : t.val % 8 = 0) (h1 : ¬1 ≤ t.val % 8) :
    out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h) (fun h' => h1 ((hcond0_1 t).mp h')) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) =
      (fun T : Blocks => k0_pay2 T.wh T.bc T.bh) (blocksAt m ρ c t) :=
  out_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) _ _
theorem left_B_18 (h : ¬t.val % 8 = 0) (h1 : 1 ≤ t.val % 8) : (outsAt0 (V1 m ρ) c t.val t.isLt).2.2.2.2 =
    out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h' => h ((hcond0_0 t).mp h')) ((hcond0_1 t).mpr h1) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) (outsAt0 (V1 m ρ) c (t.val - 1) (Nat.lt_of_le_of_lt (Nat.sub_le _ _) t.isLt)).2.1 (outsAt0 (V1 m ρ) c (t.val - 1) (Nat.lt_of_le_of_lt (Nat.sub_le _ _) t.isLt)).2.2.1 := by
  rw [outsAt0_B (V1 m ρ) c t h h1]
theorem read_B_18 (h : ¬t.val % 8 = 0) (h1 : 1 ≤ t.val % 8) :
    out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h' => h ((hcond0_0 t).mp h')) ((hcond0_1 t).mpr h1) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) (outsAt0 (V1 m ρ) c (t.val - 1) (Nat.lt_of_le_of_lt (Nat.sub_le _ _) t.isLt)).2.1 (outsAt0 (V1 m ρ) c (t.val - 1) (Nat.lt_of_le_of_lt (Nat.sub_le _ _) t.isLt)).2.2.1 =
      (fun T : Blocks => k0_pay2 T.wh T.bc T.bh) (blocksAt m ρ c t) :=
  out_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) _ _ (outsAt0 (V1 m ρ) c (t.val - 1) (Nat.lt_of_le_of_lt (Nat.sub_le _ _) t.isLt)).2.1 (outsAt0 (V1 m ρ) c (t.val - 1) (Nat.lt_of_le_of_lt (Nat.sub_le _ _) t.isLt)).2.2.1

/-- Output 14's block after a point. -/
theorem outs_14 : (outsAt0 (V1 m ρ) c t.val t.isLt).1 = (fun T : Blocks => k0_pay34 T.GG T.ff0 (k0_pay32 T.bf)) (blocksAt m ρ c t) := by
  by_cases h : t.val % 8 = 0
  · exact (left_A_14 m ρ c t h (by omega)).trans (read_A_14 m ρ c t h (by omega))
  · exact (left_B_14 m ρ c t h (by omega)).trans (read_B_14 m ρ c t h (by omega))

/-- Output 17's block after a point. -/
theorem outs_17 : (outsAt0 (V1 m ρ) c t.val t.isLt).2.2.2.1 = (fun T : Blocks => k0_pay3 T.EE T.wh T.bc T.bh) (blocksAt m ρ c t) := by
  by_cases h : t.val % 8 = 0
  · exact (left_A_17 m ρ c t h (by omega)).trans (read_A_17 m ρ c t h (by omega))
  · exact (left_B_17 m ρ c t h (by omega)).trans (read_B_17 m ρ c t h (by omega))

/-- Output 18's block after a point. -/
theorem outs_18 : (outsAt0 (V1 m ρ) c t.val t.isLt).2.2.2.2 = (fun T : Blocks => k0_pay2 T.wh T.bc T.bh) (blocksAt m ρ c t) := by
  by_cases h : t.val % 8 = 0
  · exact (left_A_18 m ρ c t h (by omega)).trans (read_A_18 m ρ c t h (by omega))
  · exact (left_B_18 m ρ c t h (by omega)).trans (read_B_18 m ρ c t h (by omega))

/-- A running extreme's block: at a sample's first point the tile's own, afterwards over the point before's. -/
theorem outs_15_first (h : t.val % 8 = 0) : (outsAt0 (V1 m ρ) c t.val t.isLt).2.1 =
    (fun T : Blocks => k0_pay37 T.GG T.ff0 (k0_pay32 T.bf)) (blocksAt m ρ c t) :=
  (left_A_15 m ρ c t h (by omega)).trans (read_A_15 m ρ c t h (by omega))
theorem outs_15_next (h : ¬t.val % 8 = 0) : (outsAt0 (V1 m ρ) c t.val t.isLt).2.1 =
    (fun T : Blocks => k0_pay39 T.GG T.ff0 (k0_pay32 T.bf) (outsAt0 (V1 m ρ) c (t.val - 1) (Nat.lt_of_le_of_lt (Nat.sub_le _ _) t.isLt)).2.1) (blocksAt m ρ c t) :=
  (left_B_15 m ρ c t h (by omega)).trans (read_B_15 m ρ c t h (by omega))

/-- A running extreme's block: at a sample's first point the tile's own, afterwards over the point before's. -/
theorem outs_16_first (h : t.val % 8 = 0) : (outsAt0 (V1 m ρ) c t.val t.isLt).2.2.1 =
    (fun T : Blocks => k0_pay38 T.GG T.ff0 (k0_pay32 T.bf)) (blocksAt m ρ c t) :=
  (left_A_16 m ρ c t h (by omega)).trans (read_A_16 m ρ c t h (by omega))
theorem outs_16_next (h : ¬t.val % 8 = 0) : (outsAt0 (V1 m ρ) c t.val t.isLt).2.2.1 =
    (fun T : Blocks => k0_pay40 T.GG T.ff0 (k0_pay32 T.bf) (outsAt0 (V1 m ρ) c (t.val - 1) (Nat.lt_of_le_of_lt (Nat.sub_le _ _) t.isLt)).2.2.1) (blocksAt m ρ c t) :=
  (left_B_16 m ρ c t h (by omega)).trans (read_B_16 m ρ c t h (by omega))

/-- A tile's least similarity, and its greatest. -/
def tileInf (D : Data) (n : ℕ) : EReal := ⨅ p : Fin 2048, D.S (16 * n + p / 128) (p % 128)
def tileSup (D : Data) (n : ℕ) : EReal := ⨆ p : Fin 2048, D.S (16 * n + p / 128) (p % 128)

/-- The broadcast tile extremes, at any lane. -/
theorem pay37_apply (T : Blocks) (j : S1x1x128.Idx) :
    k0_pay37 T.GG T.ff0 (k0_pay32 T.bf) j = k0_pay35 T.GG T.ff0 (k0_pay32 T.bf) := by
  idx_vars j
  pointwise [k0_pay37]
theorem pay38_apply (T : Blocks) (j : S1x1x128.Idx) :
    k0_pay38 T.GG T.ff0 (k0_pay32 T.bf) j = k0_pay36 T.GG T.ff0 (k0_pay32 T.bf) := by
  idx_vars j
  pointwise [k0_pay38]

/-- The running extremes, at any lane. -/
theorem pay39_apply (T : Blocks) (x : Vec Ideal S1x1x128 .f32) (j : S1x1x128.Idx) :
    k0_pay39 T.GG T.ff0 (k0_pay32 T.bf) x j = min (x j) (k0_pay35 T.GG T.ff0 (k0_pay32 T.bf)) := by
  idx_vars j
  pointwise [k0_pay39]
theorem pay40_apply (T : Blocks) (x : Vec Ideal S1x1x128 .f32) (j : S1x1x128.Idx) :
    k0_pay40 T.GG T.ff0 (k0_pay32 T.bf) x j = max (x j) (k0_pay36 T.GG T.ff0 (k0_pay32 T.bf)) := by
  idx_vars j
  pointwise [k0_pay40]

/-- After a point the running least is the least of its sample's tiles so far. -/
theorem outs_15 (n : ℕ) (hn : n < cfg0.N) (h64 : n < 64) (j : S1x1x128.Idx) : (outsAt0 (V1 m ρ) c n hn).2.1 j =
    (Finset.range (n % 8 + 1)).inf (tileInf (dataAt m c ⟨n / 8, by omega⟩)) := by
  induction n with
  | zero =>
    have e := outs_15_first m ρ c ⟨0, hn⟩ rfl
    refine (congrFun e j).trans ((pay37_apply _ j).trans (((holds_at m ρ c ⟨0, hn⟩ h64).simMin).trans ?_))
    simp [tileInf]
  | succ n ih =>
    by_cases h : (n + 1) % 8 = 0
    · have e := outs_15_first m ρ c ⟨n + 1, hn⟩ h
      refine (congrFun e j).trans ((pay37_apply _ j).trans (((holds_at m ρ c ⟨n + 1, hn⟩ h64).simMin).trans ?_))
      simp [tileInf, h]
    · have e := outs_15_next m ρ c ⟨n + 1, hn⟩ h
      refine (congrFun e j).trans ((pay39_apply _ _ j).trans ?_)
      rw [(holds_at m ρ c ⟨n + 1, hn⟩ h64).simMin]
      refine (congrArg (min · _) (ih (by omega) (by omega))).trans ?_
      have e1 : (n + 1) % 8 = n % 8 + 1 := by omega
      have e2 : (⟨n / 8, by omega⟩ : Fin 8) = ⟨(n + 1) / 8, by omega⟩ := Fin.ext (by dsimp only; omega)
      rw [e2, e1, Finset.range_add_one (n := n % 8 + 1), Finset.inf_insert, inf_comm]
      simp only [tileInf, e1]

/-- The greatest likewise. -/
theorem outs_16 (n : ℕ) (hn : n < cfg0.N) (h64 : n < 64) (j : S1x1x128.Idx) : (outsAt0 (V1 m ρ) c n hn).2.2.1 j =
    (Finset.range (n % 8 + 1)).sup (tileSup (dataAt m c ⟨n / 8, by omega⟩)) := by
  induction n with
  | zero =>
    have e := outs_16_first m ρ c ⟨0, hn⟩ rfl
    refine (congrFun e j).trans ((pay38_apply _ j).trans (((holds_at m ρ c ⟨0, hn⟩ h64).simMax).trans ?_))
    simp [tileSup]
  | succ n ih =>
    by_cases h : (n + 1) % 8 = 0
    · have e := outs_16_first m ρ c ⟨n + 1, hn⟩ h
      refine (congrFun e j).trans ((pay38_apply _ j).trans (((holds_at m ρ c ⟨n + 1, hn⟩ h64).simMax).trans ?_))
      simp [tileSup, h]
    · have e := outs_16_next m ρ c ⟨n + 1, hn⟩ h
      refine (congrFun e j).trans ((pay40_apply _ _ j).trans ?_)
      rw [(holds_at m ρ c ⟨n + 1, hn⟩ h64).simMax]
      refine (congrArg (max · _) (ih (by omega) (by omega))).trans ?_
      have e1 : (n + 1) % 8 = n % 8 + 1 := by omega
      have e2 : (⟨n / 8, by omega⟩ : Fin 8) = ⟨(n + 1) / 8, by omega⟩ := Fin.ext (by dsimp only; omega)
      rw [e2, e1, Finset.range_add_one (n := n % 8 + 1), Finset.sup_insert, sup_comm]
      simp only [tileSup, e1]

/-- A sample's least similarity, and its greatest. -/
def lo (D : Data) : EReal := ⨅ (i : Fin 128) (j : Fin 128), D.S i j
def hi (D : Data) : EReal := ⨆ (i : Fin 128) (j : Fin 128), D.S i j

/-- Over a sample's eight tiles. -/
theorem tiles_inf (D : Data) : (Finset.range 8).inf (tileInf D) = lo D := by
  refine le_antisymm (le_iInf fun i => le_iInf fun j => ?_) (Finset.le_inf fun n hn => le_iInf fun p => ?_)
  · refine (Finset.inf_le (b := i.val / 16) (Finset.mem_range.mpr (by omega))).trans
      ((iInf_le _ (⟨i.val % 16 * 128 + j, by omega⟩ : Fin 2048)).trans (le_of_eq ?_))
    dsimp only
    congr 1 <;> omega
  · have := Finset.mem_range.mp hn
    exact (iInf_le _ (⟨16 * n + p / 128, by omega⟩ : Fin 128)).trans (iInf_le _ (⟨p % 128, by omega⟩ : Fin 128))
theorem tiles_sup (D : Data) : (Finset.range 8).sup (tileSup D) = hi D := by
  refine le_antisymm (Finset.sup_le fun n hn => iSup_le fun p => ?_) (iSup_le fun i => iSup_le fun j => ?_)
  · have := Finset.mem_range.mp hn
    exact (le_iSup (fun q : Fin 128 => D.S (16 * n + p / 128) q) (⟨p % 128, by omega⟩ : Fin 128)).trans
      (le_iSup (fun i : Fin 128 => ⨆ q : Fin 128, D.S i q) (⟨16 * n + p / 128, by omega⟩ : Fin 128))
  · refine le_trans (le_trans (le_of_eq ?_)
      (le_iSup (fun p : Fin 2048 => D.S (16 * (i.val / 16) + p / 128) (p % 128)) (⟨i.val % 16 * 128 + j, by omega⟩ : Fin 2048)))
      (Finset.le_sup (f := tileSup D) (b := i.val / 16) (Finset.mem_range.mpr (by omega)))
    dsimp only
    congr 1 <;> omega

end Cert.KernelIdeal.Whole

end
-- ==== Proof.Value.Host.lean ====
module

public import proofs.«01_k».proof.Proof.Value.Window
public import proofs.«01_k».proof.Proof.Value.Outs

/-!
The reference's similarity map and its result at an index.
-/

@[expose] public section

set_option maxRecDepth 16384

noncomputable section

namespace Cert.ReferenceIdeal.Value

open Idealize.ShloMosaic Idealize.ShloMosaic.TcCoe Idealize.ShloMosaic.Pointwise
open Idealize.SL.Sem
open Cert.ReferenceIdeal Cert.ReferenceIdeal.Gen Cert.Blend
open Cert.KernelIdeal.Whole (lo hi)

/-- The norm of each position's channels. -/
def normOf (x : FVec Ideal S8x256x128x128 .f32) : FVec Ideal S8x128x128 .f32 :=
  Host.sqrt (Host.reduceAdd (mulf x x) (constant S_ .f32 0x00000000#32) reducesTo_S8x256x128x128_S8x128x128_d1 h_S_)

/-- The similarity map, a sample's positions in one row. -/
def simOf (x y : FVec Ideal S8x256x128x128 .f32) : FVec Ideal S8x16384 .f32 :=
  shapeCast _ (Host.divf (Host.reduceAdd (mulf x y) (constant S_ .f32 0x00000000#32) reducesTo_S8x256x128x128_S8x128x128_d1 h_S_)
    (mulf (normOf x) (normOf y))) shapeCasts_S8x128x128_S8x16384

/-- Each sample's least, and its greatest. -/
def minOf (s : FVec Ideal S8x16384 .f32) : FVec Ideal S8 .f32 :=
  Host.reduce FloatOps.minimumf s (constant S_ .f32 0x7F800000#32) reducesTo_S8x16384_S8_d1 h_S_
def maxOf (s : FVec Ideal S8x16384 .f32) : FVec Ideal S8 .f32 :=
  Host.reduce FloatOps.maximumf s (constant S_ .f32 0xFF800000#32) reducesTo_S8x16384_S8_d1 h_S_

/-- The similarity map scaled by its extremes. -/
def scaledOf (s : FVec Ideal S8x16384 .f32) : FVec Ideal S8x1x128x128 .f32 :=
  shapeCast _ (Host.divf (subf s (broadcastInDim S8x16384 ![0, 1] bcast_S8x1_S8x16384_0_1 (broadcastInDim S8x1 ![0] bcast_S8_S8x1_0 (minOf s))))
    (broadcastInDim S8x16384 ![0, 1] bcast_S8x1_S8x16384_0_1 (subf (broadcastInDim S8x1 ![0] bcast_S8_S8x1_0 (maxOf s)) (broadcastInDim S8x1 ![0] bcast_S8_S8x1_0 (minOf s)))))
    shapeCasts_S8x16384_S8x1x128x128

/-- The blend of two images by a scale. -/
def blendOf (n : FVec Ideal S8x1x128x128 .f32) (e h : FVec Ideal S8x256x128x128 .f32) : FVec Ideal S8x256x128x128 .f32 :=
  addf (mulf (broadcastInDim S8x256x128x128 ![0, 1, 2, 3] bcast_S8x1x128x128_S8x256x128x128_0_1_2_3 n) e)
    (mulf (broadcastInDim S8x256x128x128 ![0, 1, 2, 3] bcast_S8x1x128x128_S8x256x128x128_0_1_2_3
      (subf (broadcastInDim S8x1x128x128 ![] bcast_S_S8x1x128x128 (constant S_ .f32 0x3F800000#32)) n)) h)

section
variable (x y : FVec Ideal S8x256x128x128 .f32) (s : FVec Ideal S8x16384 .f32) (b : Fin 8) (o : Fin 256) (i j : Fin 128)

/-- An entry of the similarity map is the cosine of its position's channels. -/
theorem simOf_apply (p : Fin 16384) : simOf x y (ix2 b p) =
    sim (fun k => x (ix4 b k ⟨p.val / 128, by omega⟩ ⟨p.val % 128, by omega⟩)) (fun k => y (ix4 b k ⟨p.val / 128, by omega⟩ ⟨p.val % 128, by omega⟩)) := by
  unfold sim
  pointwise [simOf, normOf]

/-- A sample's least entry. -/
theorem minOf_apply : minOf s (ix1 b) = ⨅ p : Fin 16384, s (ix2 b p) := by
  pointwise [minOf]
  have e : Ideal.ofBits .f32 0x7F800000#32 = ⊤ := by simp [Ideal.ofBits, Ideal.ieee]
  rw [e]
  exact Finset.inf_univ_eq_iInf _

/-- A sample's greatest entry. -/
theorem maxOf_apply : maxOf s (ix1 b) = ⨆ p : Fin 16384, s (ix2 b p) := by
  pointwise [maxOf]
  have e : Ideal.ofBits .f32 0xFF800000#32 = ⊥ := by simp [Ideal.ofBits, Ideal.ieee]
  rw [e]
  exact Finset.sup_univ_eq_iSup _

/-- An entry of the scaled map. -/
theorem scaledOf_apply : scaledOf s (ix4 b 0 i j) =
    Ideal.div (s (ix2 b ⟨i.val * 128 + j.val, by omega⟩) - minOf s (ix1 b)) (maxOf s (ix1 b) - minOf s (ix1 b)) := by
  pointwise [scaledOf]

/-- An entry of the blend. -/
theorem blendOf_apply (n : FVec Ideal S8x1x128x128 .f32) (e h : FVec Ideal S8x256x128x128 .f32) : blendOf n e h (ix4 b o i j) =
    n (ix4 b 0 i j) * e (ix4 b o i j) + (1 - n (ix4 b 0 i j)) * h (ix4 b o i j) := by
  pointwise [blendOf]
end

/-! ## Of the arguments -/

section
variable (f g : FVec Ideal S8x256x128x128 .f32) (we wf wg wh : FVec Ideal S256x256 .f32) (be bf bg bh : FVec Ideal S256 .f32)
  (b : Fin 8) (o : Fin 256) (i j : Fin 128)

/-- The similarity row of the arguments. -/
def rowOf : FVec Ideal S8x16384 .f32 := simOf (convOf wf bf (nrmOf f)) (convOf wg bg (nrmOf g))

/-- The reference's result of the arguments. -/
def resultOf : FVec Ideal S8x256x128x128 .f32 :=
  blendOf (scaledOf (rowOf f g wf wg bf bg)) (convOf we be (addf (mulf (nrmOf f) (devOf g)) (meanOf g))) (convOf wh bh g)

/-- The similarity row of the arguments holds the similarities of the sample's data. -/
theorem rowOf_apply (p : Fin 16384) : rowOf f g wf wg bf bg (ix2 b p) =
    (data f g we be wf bf wg bg wh bh b).S (p.val / 128) (p.val % 128) := by
  unfold rowOf
  rw [simOf_apply]
  unfold Data.S
  congr 1 <;> funext k <;> rw [convOf_apply] <;> simp only [nrmOf_apply] <;> rfl

/-- Its least entry is the least similarity. -/
theorem min_row : minOf (rowOf f g wf wg bf bg) (ix1 b) = lo (data f g we be wf bf wg bg wh bh b) := by
  rw [minOf_apply]
  simp only [rowOf_apply f g we wf wg wh be bf bg bh]
  refine le_antisymm (le_iInf fun i => le_iInf fun j => (iInf_le _ (⟨i.val * 128 + j.val, by omega⟩ : Fin 16384)).trans (le_of_eq ?_))
    (le_iInf fun p => (iInf_le _ (⟨p.val / 128, by omega⟩ : Fin 128)).trans (iInf_le _ (⟨p.val % 128, by omega⟩ : Fin 128)))
  rw [show (i.val * 128 + j.val) / 128 = i.val by omega, show (i.val * 128 + j.val) % 128 = j.val by omega]

/-- Its greatest entry is the greatest similarity. -/
theorem max_row : maxOf (rowOf f g wf wg bf bg) (ix1 b) = hi (data f g we be wf bf wg bg wh bh b) := by
  rw [maxOf_apply]
  simp only [rowOf_apply f g we wf wg wh be bf bg bh]
  refine le_antisymm (iSup_le fun p => le_trans ?_ (le_iSup _ (⟨p.val / 128, by omega⟩ : Fin 128)))
    (iSup_le fun i => iSup_le fun j => le_trans (le_of_eq ?_) (le_iSup _ (⟨i.val * 128 + j.val, by omega⟩ : Fin 16384)))
  · exact le_iSup (fun j : Fin 128 => (data f g we be wf bf wg bg wh bh b).S (p.val / 128) j) (⟨p.val % 128, by omega⟩ : Fin 128)
  · show _ = (data f g we be wf bf wg bg wh bh b).S ((i.val * 128 + j.val) / 128) ((i.val * 128 + j.val) % 128)
    rw [show (i.val * 128 + j.val) / 128 = i.val by omega, show (i.val * 128 + j.val) % 128 = j.val by omega]

/-- The scale at a position. -/
def scale (D : Data) (h l : ℕ) : EReal := Ideal.div (D.S h l - lo D) (hi D - lo D)

/-- The reference's result at an index. -/
theorem resultOf_apply : resultOf f g we wf wg wh be bf bg bh (ix4 b o i j) =
    scale (data f g we be wf bf wg bg wh bh b) i j * (data f g we be wf bf wg bg wh bh b).EE i j o +
      (1 - scale (data f g we be wf bf wg bg wh bh b) i j) * (data f g we be wf bf wg bg wh bh b).HH i j o := by
  have hs : scaledOf (rowOf f g wf wg bf bg) (ix4 b 0 i j) = scale (data f g we be wf bf wg bg wh bh b) i j := by
    rw [scaledOf_apply, min_row f g we wf wg wh be bf bg bh, max_row f g we wf wg wh be bf bg bh, rowOf_apply f g we wf wg wh be bf bg bh]
    show Ideal.div ((data f g we be wf bf wg bg wh bh b).S ((i.val * 128 + j.val) / 128) ((i.val * 128 + j.val) % 128) - _) _ = _
    rw [show (i.val * 128 + j.val) / 128 = i.val by omega, show (i.val * 128 + j.val) % 128 = j.val by omega]
    rfl
  have he : convOf we be (addf (mulf (nrmOf f) (devOf g)) (meanOf g)) (ix4 b o i j) = (data f g we be wf bf wg bg wh bh b).EE i j o := by
    rw [convOf_apply]
    have e : ∀ k, addf (mulf (nrmOf f) (devOf g)) (meanOf g) (ix4 b k i j) =
        nrm (plane f b k) i j * dev (plane g b k) i j + mean (plane g b k) i j := fun k => by
      rw [← nrmOf_apply, ← devOf_apply, ← meanOf_apply]; rfl
    simp only [e]
    rfl
  have hh : convOf wh bh g (ix4 b o i j) = (data f g we be wf bf wg bg wh bh b).HH i j o := by
    rw [convOf_apply]
    simp only [← plane_in g b _ i j (i + 3) (j + 3) rfl rfl]
    rfl
  unfold resultOf
  rw [blendOf_apply, hs, he, hh]
end

/-- The run ends with the result of the arguments, and the arguments as they were. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v125) =
        resultOf (m ((c.tc : Thread nD τ).loc main_arg0)) (m ((c.tc : Thread nD τ).loc main_arg1))
          (m ((c.tc : Thread nD τ).loc main_arg3)) (m ((c.tc : Thread nD τ).loc main_arg5))
          (m ((c.tc : Thread nD τ).loc main_arg7)) (m ((c.tc : Thread nD τ).loc main_arg9))
          (m ((c.tc : Thread nD τ).loc main_arg4)) (m ((c.tc : Thread nD τ).loc main_arg6))
          (m ((c.tc : Thread nD τ).loc main_arg8)) (m ((c.tc : Thread nD τ).loc main_arg10))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10) :=
  (θ_run defs _ _).mono (fun _ h c => h c) (run (F := Ideal) m ρ)

end Cert.ReferenceIdeal.Value

end
-- ==== Proof.Value.Finals.lean ====
module

public import proofs.«01_k».proof.Proof.Value.Outs

/-!
The first launch's five output arrays at its end: the similarity of every pixel, each sample's least and greatest
similarity, and the two mixed images.
-/

@[expose] public section

set_option maxRecDepth 16384

noncomputable section

namespace Cert.KernelIdeal.Whole

open Idealize.ShloMosaic Idealize.ShloMosaic.TcCoe Idealize.ShloMosaic.Tactic Idealize.ShloMosaic.Pointwise
open Idealize.SL.Sem
open Cert.KernelIdeal Cert.KernelIdeal.Gen Cert.Blend

variable (m : (ℓ : Loc nD τ sig) → Buf (Elt Ideal) ℓ) (ρ : Dev nD → PrngReg) (c : Dev nD)

/-- The first launch has 64 points. -/
theorem points0 (t : Fin cfg0.N) : t.val < 64 := Nat.lt_of_lt_of_eq t.isLt (by decide +kernel)

/-- The output windows' block indices at a point. -/
theorem index0_14 : ∀ (t : Fin grid0.N) (a : Fin 3), win0_14.index t a = ![t.val / 8, 0, t.val % 8] a := by decide +kernel
theorem index0_17 : ∀ (t : Fin grid0.N) (a : Fin 3), win0_17.index t a = ![t.val / 8, 0, t.val % 8] a := by decide +kernel
theorem index0_18 : ∀ (t : Fin grid0.N) (a : Fin 3), win0_18.index t a = ![t.val / 8, 0, t.val % 8] a := by decide +kernel
theorem index0_15 : ∀ (t : Fin grid0.N) (a : Fin 3), win0_15.index t a = ![t.val / 8, 0, 0] a := by decide +kernel
theorem index0_16 : ∀ (t : Fin grid0.N) (a : Fin 3), win0_16.index t a = ![t.val / 8, 0, 0] a := by decide +kernel

/-- What the arrays end holding. -/
def simArr : Vec Ideal S8x1x16384 .f32 := fun i => (dataAt m c (i 0)).S ((i 2).val / 128) ((i 2).val % 128)
def loArr : Vec Ideal S8x1x128 .f32 := fun i => lo (dataAt m c (i 0))
def hiArr : Vec Ideal S8x1x128 .f32 := fun i => hi (dataAt m c (i 0))
def difArr : Vec Ideal S8x256x16384 .bf16 := fun i =>
  (dataAt m c (i 0)).EE ((i 2).val / 128) ((i 2).val % 128) (i 1) - (dataAt m c (i 0)).HH ((i 2).val / 128) ((i 2).val % 128) (i 1)
def mixArr : Vec Ideal S8x256x16384 .bf16 := fun i => (dataAt m c (i 0)).HH ((i 2).val / 128) ((i 2).val % 128) (i 1)

/-- Output 14's array. -/
theorem flushed_14 (t : Fin cfg0.N) : (dat0 (V1 m ρ) c).flushed 14 t =
    ((cfg0.win 14).blk t).view.read (Elt Ideal) (simArr m c) := by
  have ht := points0 t
  show (cfg0.win 14).cut (grid0.coords t) ((dat0 (V1 m ρ) c).after 14 t) = _
  rw [after0_14, outs_14]
  refine funext fun (j : S1x1x2048.Idx) => ?_
  obtain ⟨z, r, p, rfl⟩ : ∃ (z : Fin 1) (r : Fin 1) (p : Fin 2048), j = ix3 z r p :=
    ⟨j 0, j 1, j 2, funext fun a => by match a with | ⟨0, _⟩ => rfl | ⟨1, _⟩ => rfl | ⟨2, _⟩ => rfl⟩
  obtain rfl : z = 0 := Subsingleton.elim _ _
  obtain rfl : r = 0 := Subsingleton.elim _ _
  rw [View.read_apply]
  refine ((holds_at m ρ c t ht).simBlock p).trans ?_
  refine Eq.trans (b := simArr m c (ix3 ⟨t.val / 8, by omega⟩ 0 ⟨t.val % 8 * 2048 + p, by omega⟩)) ?_ (congrArg (simArr m c) ?_)
  · have e1 : 16 * (t.val % 8) + p.val / 128 = (t.val % 8 * 2048 + p.val) / 128 := by omega
    have e2 : p.val % 128 = (t.val % 8 * 2048 + p.val) % 128 := by omega
    rw [e1, e2]
    rfl
  · funext a; apply Fin.ext
    have e := index0_14 t a
    match a with
    | ⟨0, _⟩ => show t.val / 8 = win0_14.index t 0 * 1 + 1 * 0; rw [show win0_14.index t 0 = t.val / 8 from e]; omega
    | ⟨1, _⟩ => show 0 = win0_14.index t 1 * 1 + 1 * 0; rw [show win0_14.index t 1 = 0 from e]
    | ⟨2, _⟩ => show t.val % 8 * 2048 + p.val = win0_14.index t 2 * 2048 + 1 * p.val; rw [show win0_14.index t 2 = t.val % 8 from e]; omega

/-- The first launch leaves the similarities, -/
theorem final_14 : (dat0 (V1 m ρ) c).arrAt 14 cfg0.N = simArr m c :=
  (dat0 (V1 m ρ) c).arrAt_eq_of_cover 14 (simArr m c) (fun t _ => flushed_14 m ρ c t) fun i => by
    have h0 : (i 0 : Nat) < 8 := (i 0).isLt
    have h1 : (i 1 : Nat) < 1 := (i 1).isLt
    have h2 : (i 2 : Nat) < 16384 := (i 2).isLt
    have ht : 8 * (i 0 : Nat) + (i 2 : Nat) / 2048 < cfg0.N := Nat.lt_of_lt_of_eq (by omega) (show 64 = cfg0.N by decide +kernel)
    refine ⟨⟨8 * (i 0 : Nat) + (i 2 : Nat) / 2048, ht⟩, flush0_14 _, ?_⟩
    show i ∈ ((View.whole main_v6_0).slice (win0_14.rect ⟨8 * (i 0 : Nat) + (i 2 : Nat) / 2048, ht⟩)).set
    rw [View.set_slice_whole, Rect.mem_set_unit]
    intro a
    have e := index0_14 ⟨8 * (i 0 : Nat) + (i 2 : Nat) / 2048, ht⟩ a
    match a with
    | ⟨0, _⟩ => show win0_14.index ⟨8 * (i 0 : Nat) + (i 2 : Nat) / 2048, ht⟩ 0 * 1 ≤ (i 0 : Nat) ∧ (i 0 : Nat) < win0_14.index ⟨8 * (i 0 : Nat) + (i 2 : Nat) / 2048, ht⟩ 0 * 1 + 1
                rw [show win0_14.index ⟨8 * (i 0 : Nat) + (i 2 : Nat) / 2048, ht⟩ 0 = (8 * (i 0 : Nat) + (i 2 : Nat) / 2048) / 8 from e]; omega
    | ⟨1, _⟩ => show win0_14.index ⟨8 * (i 0 : Nat) + (i 2 : Nat) / 2048, ht⟩ 1 * 1 ≤ (i 1 : Nat) ∧ (i 1 : Nat) < win0_14.index ⟨8 * (i 0 : Nat) + (i 2 : Nat) / 2048, ht⟩ 1 * 1 + 1
                rw [show win0_14.index ⟨8 * (i 0 : Nat) + (i 2 : Nat) / 2048, ht⟩ 1 = 0 from e]; omega
    | ⟨2, _⟩ => show win0_14.index ⟨8 * (i 0 : Nat) + (i 2 : Nat) / 2048, ht⟩ 2 * 2048 ≤ (i 2 : Nat) ∧ (i 2 : Nat) < win0_14.index ⟨8 * (i 0 : Nat) + (i 2 : Nat) / 2048, ht⟩ 2 * 2048 + 2048
                rw [show win0_14.index ⟨8 * (i 0 : Nat) + (i 2 : Nat) / 2048, ht⟩ 2 = (8 * (i 0 : Nat) + (i 2 : Nat) / 2048) % 8 from e]; omega

/-- Output 17's array. -/
theorem flushed_17 (t : Fin cfg0.N) : (dat0 (V1 m ρ) c).flushed 17 t =
    ((cfg0.win 17).blk t).view.read (Elt Ideal) (difArr m c) := by
  have ht := points0 t
  show (cfg0.win 17).cut (grid0.coords t) ((dat0 (V1 m ρ) c).after 17 t) = _
  rw [after0_17, outs_17]
  refine funext fun (j : S1x256x2048.Idx) => ?_
  obtain ⟨z, r, p, rfl⟩ : ∃ (z : Fin 1) (r : Fin 256) (p : Fin 2048), j = ix3 z r p :=
    ⟨j 0, j 1, j 2, funext fun a => by match a with | ⟨0, _⟩ => rfl | ⟨1, _⟩ => rfl | ⟨2, _⟩ => rfl⟩
  obtain rfl : z = 0 := Subsingleton.elim _ _

  rw [View.read_apply]
  refine ((holds_at m ρ c t ht).ddBlock r p).trans ?_
  refine Eq.trans (b := difArr m c (ix3 ⟨t.val / 8, by omega⟩ r ⟨t.val % 8 * 2048 + p, by omega⟩)) ?_ (congrArg (difArr m c) ?_)
  · have e1 : 16 * (t.val % 8) + p.val / 128 = (t.val % 8 * 2048 + p.val) / 128 := by omega
    have e2 : p.val % 128 = (t.val % 8 * 2048 + p.val) % 128 := by omega
    rw [e1, e2]
    rfl
  · funext a; apply Fin.ext
    have e := index0_17 t a
    match a with
    | ⟨0, _⟩ => show t.val / 8 = win0_17.index t 0 * 1 + 1 * 0; rw [show win0_17.index t 0 = t.val / 8 from e]; omega
    | ⟨1, _⟩ => show r.val = win0_17.index t 1 * 256 + 1 * r.val; rw [show win0_17.index t 1 = 0 from e]; omega
    | ⟨2, _⟩ => show t.val % 8 * 2048 + p.val = win0_17.index t 2 * 2048 + 1 * p.val; rw [show win0_17.index t 2 = t.val % 8 from e]; omega

/-- the differences of the two convolutions, -/
theorem final_17 : (dat0 (V1 m ρ) c).arrAt 17 cfg0.N = difArr m c :=
  (dat0 (V1 m ρ) c).arrAt_eq_of_cover 17 (difArr m c) (fun t _ => flushed_17 m ρ c t) fun i => by
    have h0 : (i 0 : Nat) < 8 := (i 0).isLt
    have h1 : (i 1 : Nat) < 256 := (i 1).isLt
    have h2 : (i 2 : Nat) < 16384 := (i 2).isLt
    have ht : 8 * (i 0 : Nat) + (i 2 : Nat) / 2048 < cfg0.N := Nat.lt_of_lt_of_eq (by omega) (show 64 = cfg0.N by decide +kernel)
    refine ⟨⟨8 * (i 0 : Nat) + (i 2 : Nat) / 2048, ht⟩, flush0_17 _, ?_⟩
    show i ∈ ((View.whole main_v6_3).slice (win0_17.rect ⟨8 * (i 0 : Nat) + (i 2 : Nat) / 2048, ht⟩)).set
    rw [View.set_slice_whole, Rect.mem_set_unit]
    intro a
    have e := index0_17 ⟨8 * (i 0 : Nat) + (i 2 : Nat) / 2048, ht⟩ a
    match a with
    | ⟨0, _⟩ => show win0_17.index ⟨8 * (i 0 : Nat) + (i 2 : Nat) / 2048, ht⟩ 0 * 1 ≤ (i 0 : Nat) ∧ (i 0 : Nat) < win0_17.index ⟨8 * (i 0 : Nat) + (i 2 : Nat) / 2048, ht⟩ 0 * 1 + 1
                rw [show win0_17.index ⟨8 * (i 0 : Nat) + (i 2 : Nat) / 2048, ht⟩ 0 = (8 * (i 0 : Nat) + (i 2 : Nat) / 2048) / 8 from e]; omega
    | ⟨1, _⟩ => show win0_17.index ⟨8 * (i 0 : Nat) + (i 2 : Nat) / 2048, ht⟩ 1 * 256 ≤ (i 1 : Nat) ∧ (i 1 : Nat) < win0_17.index ⟨8 * (i 0 : Nat) + (i 2 : Nat) / 2048, ht⟩ 1 * 256 + 256
                rw [show win0_17.index ⟨8 * (i 0 : Nat) + (i 2 : Nat) / 2048, ht⟩ 1 = 0 from e]; omega
    | ⟨2, _⟩ => show win0_17.index ⟨8 * (i 0 : Nat) + (i 2 : Nat) / 2048, ht⟩ 2 * 2048 ≤ (i 2 : Nat) ∧ (i 2 : Nat) < win0_17.index ⟨8 * (i 0 : Nat) + (i 2 : Nat) / 2048, ht⟩ 2 * 2048 + 2048
                rw [show win0_17.index ⟨8 * (i 0 : Nat) + (i 2 : Nat) / 2048, ht⟩ 2 = (8 * (i 0 : Nat) + (i 2 : Nat) / 2048) % 8 from e]; omega

/-- Output 18's array. -/
theorem flushed_18 (t : Fin cfg0.N) : (dat0 (V1 m ρ) c).flushed 18 t =
    ((cfg0.win 18).blk t).view.read (Elt Ideal) (mixArr m c) := by
  have ht := points0 t
  show (cfg0.win 18).cut (grid0.coords t) ((dat0 (V1 m ρ) c).after 18 t) = _
  rw [after0_18, outs_18]
  refine funext fun (j : S1x256x2048.Idx) => ?_
  obtain ⟨z, r, p, rfl⟩ : ∃ (z : Fin 1) (r : Fin 256) (p : Fin 2048), j = ix3 z r p :=
    ⟨j 0, j 1, j 2, funext fun a => by match a with | ⟨0, _⟩ => rfl | ⟨1, _⟩ => rfl | ⟨2, _⟩ => rfl⟩
  obtain rfl : z = 0 := Subsingleton.elim _ _

  rw [View.read_apply]
  refine ((holds_at m ρ c t ht).hhBlock r p).trans ?_
  refine Eq.trans (b := mixArr m c (ix3 ⟨t.val / 8, by omega⟩ r ⟨t.val % 8 * 2048 + p, by omega⟩)) ?_ (congrArg (mixArr m c) ?_)
  · have e1 : 16 * (t.val % 8) + p.val / 128 = (t.val % 8 * 2048 + p.val) / 128 := by omega
    have e2 : p.val % 128 = (t.val % 8 * 2048 + p.val) % 128 := by omega
    rw [e1, e2]
    rfl
  · funext a; apply Fin.ext
    have e := index0_18 t a
    match a with
    | ⟨0, _⟩ => show t.val / 8 = win0_18.index t 0 * 1 + 1 * 0; rw [show win0_18.index t 0 = t.val / 8 from e]; omega
    | ⟨1, _⟩ => show r.val = win0_18.index t 1 * 256 + 1 * r.val; rw [show win0_18.index t 1 = 0 from e]; omega
    | ⟨2, _⟩ => show t.val % 8 * 2048 + p.val = win0_18.index t 2 * 2048 + 1 * p.val; rw [show win0_18.index t 2 = t.val % 8 from e]; omega

/-- the convolution of the second image, -/
theorem final_18 : (dat0 (V1 m ρ) c).arrAt 18 cfg0.N = mixArr m c :=
  (dat0 (V1 m ρ) c).arrAt_eq_of_cover 18 (mixArr m c) (fun t _ => flushed_18 m ρ c t) fun i => by
    have h0 : (i 0 : Nat) < 8 := (i 0).isLt
    have h1 : (i 1 : Nat) < 256 := (i 1).isLt
    have h2 : (i 2 : Nat) < 16384 := (i 2).isLt
    have ht : 8 * (i 0 : Nat) + (i 2 : Nat) / 2048 < cfg0.N := Nat.lt_of_lt_of_eq (by omega) (show 64 = cfg0.N by decide +kernel)
    refine ⟨⟨8 * (i 0 : Nat) + (i 2 : Nat) / 2048, ht⟩, flush0_18 _, ?_⟩
    show i ∈ ((View.whole main_v6_4).slice (win0_18.rect ⟨8 * (i 0 : Nat) + (i 2 : Nat) / 2048, ht⟩)).set
    rw [View.set_slice_whole, Rect.mem_set_unit]
    intro a
    have e := index0_18 ⟨8 * (i 0 : Nat) + (i 2 : Nat) / 2048, ht⟩ a
    match a with
    | ⟨0, _⟩ => show win0_18.index ⟨8 * (i 0 : Nat) + (i 2 : Nat) / 2048, ht⟩ 0 * 1 ≤ (i 0 : Nat) ∧ (i 0 : Nat) < win0_18.index ⟨8 * (i 0 : Nat) + (i 2 : Nat) / 2048, ht⟩ 0 * 1 + 1
                rw [show win0_18.index ⟨8 * (i 0 : Nat) + (i 2 : Nat) / 2048, ht⟩ 0 = (8 * (i 0 : Nat) + (i 2 : Nat) / 2048) / 8 from e]; omega
    | ⟨1, _⟩ => show win0_18.index ⟨8 * (i 0 : Nat) + (i 2 : Nat) / 2048, ht⟩ 1 * 256 ≤ (i 1 : Nat) ∧ (i 1 : Nat) < win0_18.index ⟨8 * (i 0 : Nat) + (i 2 : Nat) / 2048, ht⟩ 1 * 256 + 256
                rw [show win0_18.index ⟨8 * (i 0 : Nat) + (i 2 : Nat) / 2048, ht⟩ 1 = 0 from e]; omega
    | ⟨2, _⟩ => show win0_18.index ⟨8 * (i 0 : Nat) + (i 2 : Nat) / 2048, ht⟩ 2 * 2048 ≤ (i 2 : Nat) ∧ (i 2 : Nat) < win0_18.index ⟨8 * (i 0 : Nat) + (i 2 : Nat) / 2048, ht⟩ 2 * 2048 + 2048
                rw [show win0_18.index ⟨8 * (i 0 : Nat) + (i 2 : Nat) / 2048, ht⟩ 2 = (8 * (i 0 : Nat) + (i 2 : Nat) / 2048) % 8 from e]; omega

/-- Output 15's array. -/
theorem flushed_15 (t : Fin cfg0.N) (h7 : t.val % 8 = 7) : (dat0 (V1 m ρ) c).flushed 15 t =
    ((cfg0.win 15).blk t).view.read (Elt Ideal) (loArr m c) := by
  have ht := points0 t
  show (cfg0.win 15).cut (grid0.coords t) ((dat0 (V1 m ρ) c).after 15 t) = _
  rw [after0_15]
  refine funext fun (j : S1x1x128.Idx) => ?_
  rw [View.read_apply]
  refine (outs_15 m ρ c t.val t.isLt ht j).trans ?_
  rw [h7, tiles_inf]
  show lo _ = lo (dataAt m c _)
  congr 2
  apply Fin.ext
  have hj : (j 0).val < 1 := (j 0).isLt
  show t.val / 8 = win0_15.index t 0 * 1 + 1 * (j 0).val
  rw [show win0_15.index t 0 = t.val / 8 from index0_15 t 0]
  omega
/-- each sample's least similarity, -/
theorem final_15 : (dat0 (V1 m ρ) c).arrAt 15 cfg0.N = loArr m c :=
  (dat0 (V1 m ρ) c).arrAt_eq_of_cover 15 (loArr m c) (fun t h => flushed_15 m ρ c t ((flush0_15 t).mp h)) fun i => by
    have h0 : (i 0 : Nat) < 8 := (i 0).isLt
    have h1 : (i 1 : Nat) < 1 := (i 1).isLt
    have h2 : (i 2 : Nat) < 128 := (i 2).isLt
    have ht : 8 * (i 0 : Nat) + 7 < cfg0.N := Nat.lt_of_lt_of_eq (by omega) (show 64 = cfg0.N by decide +kernel)
    refine ⟨⟨8 * (i 0 : Nat) + 7, ht⟩, (flush0_15 _).mpr (show (8 * (i 0 : Nat) + 7) % 8 = 7 by omega), ?_⟩
    show i ∈ ((View.whole main_v6_1).slice (win0_15.rect ⟨8 * (i 0 : Nat) + 7, ht⟩)).set
    rw [View.set_slice_whole, Rect.mem_set_unit]
    intro a
    have e := index0_15 ⟨8 * (i 0 : Nat) + 7, ht⟩ a
    match a with
    | ⟨0, _⟩ => show win0_15.index ⟨8 * (i 0 : Nat) + 7, ht⟩ 0 * 1 ≤ (i 0 : Nat) ∧ (i 0 : Nat) < win0_15.index ⟨8 * (i 0 : Nat) + 7, ht⟩ 0 * 1 + 1
                rw [show win0_15.index ⟨8 * (i 0 : Nat) + 7, ht⟩ 0 = (8 * (i 0 : Nat) + 7) / 8 from e]; omega
    | ⟨1, _⟩ => show win0_15.index ⟨8 * (i 0 : Nat) + 7, ht⟩ 1 * 1 ≤ (i 1 : Nat) ∧ (i 1 : Nat) < win0_15.index ⟨8 * (i 0 : Nat) + 7, ht⟩ 1 * 1 + 1
                rw [show win0_15.index ⟨8 * (i 0 : Nat) + 7, ht⟩ 1 = 0 from e]; omega
    | ⟨2, _⟩ => show win0_15.index ⟨8 * (i 0 : Nat) + 7, ht⟩ 2 * 128 ≤ (i 2 : Nat) ∧ (i 2 : Nat) < win0_15.index ⟨8 * (i 0 : Nat) + 7, ht⟩ 2 * 128 + 128
                rw [show win0_15.index ⟨8 * (i 0 : Nat) + 7, ht⟩ 2 = 0 from e]; omega

/-- Output 16's array. -/
theorem flushed_16 (t : Fin cfg0.N) (h7 : t.val % 8 = 7) : (dat0 (V1 m ρ) c).flushed 16 t =
    ((cfg0.win 16).blk t).view.read (Elt Ideal) (hiArr m c) := by
  have ht := points0 t
  show (cfg0.win 16).cut (grid0.coords t) ((dat0 (V1 m ρ) c).after 16 t) = _
  rw [after0_16]
  refine funext fun (j : S1x1x128.Idx) => ?_
  rw [View.read_apply]
  refine (outs_16 m ρ c t.val t.isLt ht j).trans ?_
  rw [h7, tiles_sup]
  show hi _ = hi (dataAt m c _)
  congr 2
  apply Fin.ext
  have hj : (j 0).val < 1 := (j 0).isLt
  show t.val / 8 = win0_16.index t 0 * 1 + 1 * (j 0).val
  rw [show win0_16.index t 0 = t.val / 8 from index0_16 t 0]
  omega
/-- and its greatest. -/
theorem final_16 : (dat0 (V1 m ρ) c).arrAt 16 cfg0.N = hiArr m c :=
  (dat0 (V1 m ρ) c).arrAt_eq_of_cover 16 (hiArr m c) (fun t h => flushed_16 m ρ c t ((flush0_16 t).mp h)) fun i => by
    have h0 : (i 0 : Nat) < 8 := (i 0).isLt
    have h1 : (i 1 : Nat) < 1 := (i 1).isLt
    have h2 : (i 2 : Nat) < 128 := (i 2).isLt
    have ht : 8 * (i 0 : Nat) + 7 < cfg0.N := Nat.lt_of_lt_of_eq (by omega) (show 64 = cfg0.N by decide +kernel)
    refine ⟨⟨8 * (i 0 : Nat) + 7, ht⟩, (flush0_16 _).mpr (show (8 * (i 0 : Nat) + 7) % 8 = 7 by omega), ?_⟩
    show i ∈ ((View.whole main_v6_2).slice (win0_16.rect ⟨8 * (i 0 : Nat) + 7, ht⟩)).set
    rw [View.set_slice_whole, Rect.mem_set_unit]
    intro a
    have e := index0_16 ⟨8 * (i 0 : Nat) + 7, ht⟩ a
    match a with
    | ⟨0, _⟩ => show win0_16.index ⟨8 * (i 0 : Nat) + 7, ht⟩ 0 * 1 ≤ (i 0 : Nat) ∧ (i 0 : Nat) < win0_16.index ⟨8 * (i 0 : Nat) + 7, ht⟩ 0 * 1 + 1
                rw [show win0_16.index ⟨8 * (i 0 : Nat) + 7, ht⟩ 0 = (8 * (i 0 : Nat) + 7) / 8 from e]; omega
    | ⟨1, _⟩ => show win0_16.index ⟨8 * (i 0 : Nat) + 7, ht⟩ 1 * 1 ≤ (i 1 : Nat) ∧ (i 1 : Nat) < win0_16.index ⟨8 * (i 0 : Nat) + 7, ht⟩ 1 * 1 + 1
                rw [show win0_16.index ⟨8 * (i 0 : Nat) + 7, ht⟩ 1 = 0 from e]; omega
    | ⟨2, _⟩ => show win0_16.index ⟨8 * (i 0 : Nat) + 7, ht⟩ 2 * 128 ≤ (i 2 : Nat) ∧ (i 2 : Nat) < win0_16.index ⟨8 * (i 0 : Nat) + 7, ht⟩ 2 * 128 + 128
                rw [show win0_16.index ⟨8 * (i 0 : Nat) + 7, ht⟩ 2 = 0 from e]; omega

end Cert.KernelIdeal.Whole

end
-- ==== Proof.Value.Second.lean ====
module

public import proofs.«01_k».proof.Proof.Value.Finals

/-!
The second launch: what a point's body leaves, the host values it reads, and the image it writes.
-/

@[expose] public section

set_option maxRecDepth 16384

noncomputable section

namespace Cert.KernelIdeal.Whole

open Idealize.ShloMosaic Idealize.ShloMosaic.TcCoe Idealize.ShloMosaic.Tactic Idealize.ShloMosaic.Pointwise
open Idealize.SL.Sem
open Cert.KernelIdeal Cert.KernelIdeal.Gen Cert.Blend

variable (m : (ℓ : Loc nD τ sig) → Buf (Elt Ideal) ℓ) (ρ : Dev nD → PrngReg) (c : Dev nD)

/-- A word of an eight-word table at a sample's place. -/
theorem word_at (x : Vec Ideal S8 .f32) (i : grid1.Coords) (h) (q) :
    View.ld x (Rect.unit (s := S8) ![BitVec.toNat (Scalar.indexCast (BitVec.ofNat 32 (i 0).val))] ![1] h)
      (Shape.Idx.first q) = x (ix1 (i 0)) := by
  show x _ = x _
  congr 1; funext a; apply Fin.ext
  have hi : (i 0).val < 8 := (i 0).isLt
  match a with
  | ⟨0, _⟩ =>
    show (BitVec.ofNat 32 (i 0).val).toNat + 1 * 0 = (i 0).val
    rw [BitVec.toNat_ofNat, Nat.mod_eq_of_lt (by omega)]
    omega

section Point
variable (i : grid1.Coords) (arg2 : Memref sig .tc .vmem S1x1x2048 .f32) (harg2 : arg2.IsWhole) (arg3 : Memref sig .tc .vmem S1x256x2048 .bf16) (harg3 : arg3.IsWhole) (arg4 : Memref sig .tc .vmem S1x256x2048 .bf16) (harg4 : arg4.IsWhole) (arg5 : Memref sig .tc .smem S8 .f32) (harg5 : arg5.IsWhole) (arg6 : Memref sig .tc .smem S8 .f32) (harg6 : arg6.IsWhole) (arg7 : Memref sig .tc .vmem S1x256x2048 .f32) (harg7 : arg7.IsWhole)
  (x0 : Vec Ideal S1x1x2048 .f32) (x1 x2 : Vec Ideal S1x256x2048 .bf16) (x3 x4 : Vec Ideal S8 .f32)

/-- A point's output, of the blocks it reads. -/
theorem out_5 : out1_A_5 c i arg2 harg2 arg3 harg3 arg4 harg4 arg5 harg5 arg6 harg6 arg7 harg7 x0 x1 x2 x3 x4 = k1_pay1 x0 (x3 (ix1 (i 0))) (x4 (ix1 (i 0))) x2 x1 := by
  unfold out1_A_5
  rw [View.read_writes_eq_canon _ _ _ (cover1_A_5 c i arg2 harg2 arg3 harg3 arg4 harg4 arg5 harg5 arg6 harg6 arg7 harg7 x0 x1 x2 x3 x4)]
  unfold kernelRun1_A
  dsimp only
  sl_unfold_words
  rw [View.canon_unit_zero hz3]
  simp only [View.readAt_eq_ld, harg2.read_unread, harg3.read_unread, harg4.read_unread, harg5.read_unread, harg6.read_unread, View.ld_unit_zero (S := S1x1x2048) hz3, View.ld_unit_zero (S := S1x256x2048) hz3]
  exact congrArg₂ (fun a b => k1_pay1 x0 a b x2 x1) (word_at x3 i _ _) (word_at x4 i _ _)

end Point

/-- The blend at a lane. -/
theorem pay1_apply (x0 : Vec Ideal S1x1x2048 .f32) (u v : Elt Ideal .f32) (x2 x1 : Vec Ideal S1x256x2048 .bf16)
    (r : Fin 256) (p : Fin 2048) :
    k1_pay1 x0 u v x2 x1 (ix3 0 r p) = x2 (ix3 0 r p) + ((x0 (ix3 0 0 p) - u) * v) * x1 (ix3 0 r p) := by
  pointwise [k1_pay1]

/-- The arrays the second launch is entered with. -/
theorem V3_sim : V3 m ρ c main_v6_0 = simArr m c :=
  (W3_of m ρ c main_v6_0 (by decide)).trans ((W2_arr m ρ c 14).trans (final_14 m ρ c))
theorem V3_dif : V3 m ρ c main_v6_3 = difArr m c :=
  (W3_of m ρ c main_v6_3 (by decide)).trans ((W2_arr m ρ c 17).trans (final_17 m ρ c))
theorem V3_mix : V3 m ρ c main_v6_4 = mixArr m c :=
  (W3_of m ρ c main_v6_4 (by decide)).trans ((W2_arr m ρ c 18).trans (final_18 m ρ c))
theorem W2_lo : W2 m ρ c (Proc.devRef .tc main_v6_1) = loArr m c := (W2_arr m ρ c 15).trans (final_15 m ρ c)
theorem W2_hi : W2 m ρ c (Proc.devRef .tc main_v6_2) = hiArr m c := (W2_arr m ρ c 16).trans (final_16 m ρ c)

/-- The first word of each row of a row table. -/
theorem first_word (x : Vec Ideal S8x1x128 .f32) (b : Fin 8) :
    shapeCast S8 (extractStridedSlice S8x1x1 ![0, 0, 0] x slices_S8x1x128_S8x1x1_0_0_0) shapeCasts_S8x1x1_S8 (ix1 b) =
      x (ix3 b 0 0) := by
  pointwise []

/-- The table of least similarities the second launch reads. -/
theorem V3_lo : V3 m ρ c main_v8 =
    shapeCast S8 (extractStridedSlice S8x1x1 ![0, 0, 0] (loArr m c) slices_S8x1x128_S8x1x1_0_0_0) shapeCasts_S8x1x1_S8 := by
  show StableHlo.after hostOps1 (W2 m ρ c) (Proc.devRef .tc main_v8) = _
  after_results
  rw [W2_lo]
  rfl

/-- The reciprocal of each sample's range. -/
theorem V3_inv : V3 m ρ c main_v13 = Host.divf (broadcastInDim S8 ![] bcast_S_S8 (constant (F := Ideal) S_ .f32 0x3F800000#32))
    (subf
      (shapeCast S8 (extractStridedSlice S8x1x1 ![0, 0, 0] (hiArr m c) slices_S8x1x128_S8x1x1_0_0_0) shapeCasts_S8x1x1_S8 : FVec Ideal S8 .f32)
      (shapeCast S8 (extractStridedSlice S8x1x1 ![0, 0, 0] (loArr m c) slices_S8x1x128_S8x1x1_0_0_0) shapeCasts_S8x1x1_S8)) := by
  show StableHlo.after hostOps1 (W2 m ρ c) (Proc.devRef .tc main_v13) = _
  after_results
  rw [W2_lo, W2_hi]
  rfl

/-- Its words are the samples' least similarities. -/
theorem lo_word (b : Fin 8) : V3 m ρ c main_v8 (ix1 b) = lo (dataAt m c b) := by
  rw [V3_lo]
  exact first_word _ b
/-- The other table's words are the reciprocals of their spreads. -/
theorem inv_word (b : Fin 8) : V3 m ρ c main_v13 (ix1 b) = Ideal.div 1 (hi (dataAt m c b) - lo (dataAt m c b)) := by
  rw [V3_inv]
  have e1 := first_word (loArr m c) b
  have e2 := first_word (hiArr m c) b
  refine (show _ = Ideal.div (Ideal.ofBits .f32 0x3F800000#32) (_ - _) from rfl).trans ?_
  rw [e1, e2, Ideal.ofBits_one_f32]
  rfl

/-- The second launch's block indices at a point. -/
theorem index1_0 : ∀ (t : Fin grid1.N) (a : Fin 3), win1_0.index t a = ![t.val / 8, 0, t.val % 8] a := by decide +kernel
theorem index1_1 : ∀ (t : Fin grid1.N) (a : Fin 3), win1_1.index t a = ![t.val / 8, 0, t.val % 8] a := by decide +kernel
theorem index1_2 : ∀ (t : Fin grid1.N) (a : Fin 3), win1_2.index t a = ![t.val / 8, 0, t.val % 8] a := by decide +kernel
theorem index1_5 : ∀ (t : Fin grid1.N) (a : Fin 3), win1_5.index t a = ![t.val / 8, 0, t.val % 8] a := by decide +kernel
theorem coord1_0 : ∀ t : Fin grid1.N, (grid1.coords t 0).val = t.val / 8 := by decide +kernel
theorem points1 (t : Fin cfg1.N) : t.val < 64 := Nat.lt_of_lt_of_eq t.isLt (by decide +kernel)

/-- Its blocks. -/
theorem block1_0 (t : Fin cfg1.N) (r : Fin 1) (p : Fin 2048) (ht : t.val < 64) :
    iblk1 (V3 m ρ) c 0 t (ix3 0 r p) = V3 m ρ c main_v6_0 (ix3 ⟨t.val / 8, by omega⟩ r ⟨t.val % 8 * 2048 + p, by omega⟩) := by
  unfold iblk1
  rw [View.read_apply]
  show V3 m ρ c main_v6_0 _ = _
  congr 1; funext a; apply Fin.ext
  have e := index1_0 t a
  match a with
  | ⟨0, _⟩ => show win1_0.index t 0 * 1 + 1 * 0 = t.val / 8; rw [show win1_0.index t 0 = t.val / 8 from e]; omega
  | ⟨1, _⟩ => show win1_0.index t 1 * 1 + 1 * r.val = r.val; rw [show win1_0.index t 1 = 0 from e]; omega
  | ⟨2, _⟩ => show win1_0.index t 2 * 2048 + 1 * p.val = t.val % 8 * 2048 + p; rw [show win1_0.index t 2 = t.val % 8 from e]; omega
/-- The differences a point reads. -/
theorem block1_1 (t : Fin cfg1.N) (r : Fin 256) (p : Fin 2048) (ht : t.val < 64) :
    iblk1 (V3 m ρ) c 1 t (ix3 0 r p) = V3 m ρ c main_v6_3 (ix3 ⟨t.val / 8, by omega⟩ r ⟨t.val % 8 * 2048 + p, by omega⟩) := by
  unfold iblk1
  rw [View.read_apply]
  show V3 m ρ c main_v6_3 _ = _
  congr 1; funext a; apply Fin.ext
  have e := index1_1 t a
  match a with
  | ⟨0, _⟩ => show win1_1.index t 0 * 1 + 1 * 0 = t.val / 8; rw [show win1_1.index t 0 = t.val / 8 from e]; omega
  | ⟨1, _⟩ => show win1_1.index t 1 * 256 + 1 * r.val = r.val; rw [show win1_1.index t 1 = 0 from e]; omega
  | ⟨2, _⟩ => show win1_1.index t 2 * 2048 + 1 * p.val = t.val % 8 * 2048 + p; rw [show win1_1.index t 2 = t.val % 8 from e]; omega
theorem block1_2 (t : Fin cfg1.N) (r : Fin 256) (p : Fin 2048) (ht : t.val < 64) :
    iblk1 (V3 m ρ) c 2 t (ix3 0 r p) = V3 m ρ c main_v6_4 (ix3 ⟨t.val / 8, by omega⟩ r ⟨t.val % 8 * 2048 + p, by omega⟩) := by
  unfold iblk1
  rw [View.read_apply]
  show V3 m ρ c main_v6_4 _ = _
  congr 1; funext a; apply Fin.ext
  have e := index1_2 t a
  match a with
  | ⟨0, _⟩ => show win1_2.index t 0 * 1 + 1 * 0 = t.val / 8; rw [show win1_2.index t 0 = t.val / 8 from e]; omega
  | ⟨1, _⟩ => show win1_2.index t 1 * 256 + 1 * r.val = r.val; rw [show win1_2.index t 1 = 0 from e]; omega
  | ⟨2, _⟩ => show win1_2.index t 2 * 2048 + 1 * p.val = t.val % 8 * 2048 + p; rw [show win1_2.index t 2 = t.val % 8 from e]; omega
/-- A point reads the whole tables. -/
theorem block1_3 (t : Fin cfg1.N) : iblk1 (V3 m ρ) c 3 t = V3 m ρ c main_v8 :=
  Memref.read_access_unit_zero _ _ (funext fun a => by match a with | ⟨0, _⟩ => rfl) _ _
theorem block1_4 (t : Fin cfg1.N) : iblk1 (V3 m ρ) c 4 t = V3 m ρ c main_v13 :=
  Memref.read_access_unit_zero _ _ (funext fun a => by match a with | ⟨0, _⟩ => rfl) _ _

/-- A sample's blended pixel. -/
def blended (D : Data) (h l : ℕ) (o : Fin 256) : EReal :=
  D.HH h l o + ((D.S h l - lo D) * Ideal.div 1 (hi D - lo D)) * (D.EE h l o - D.HH h l o)

/-- The image the second launch writes. -/
def outArr : Vec Ideal S8x256x16384 .f32 := fun i => blended (dataAt m c (i 0)) ((i 2).val / 128) ((i 2).val % 128) (i 1)

/-- What a point leaves, of the arrays. -/
theorem outs1 (t : Fin cfg1.N) : outsAt1 (V3 m ρ) c t =
    k1_pay1 (iblk1 (V3 m ρ) c 0 t) (V3 m ρ c main_v8 (ix1 (grid1.coords t 0))) (V3 m ρ c main_v13 (ix1 (grid1.coords t 0)))
      (iblk1 (V3 m ρ) c 2 t) (iblk1 (V3 m ρ) c 1 t) := by
  rw [← block1_3 m ρ c t, ← block1_4 m ρ c t]
  unfold outsAt1
  rw [out_5]

/-- What a point writes out is its block of the blended array. -/
theorem flushed1 (t : Fin cfg1.N) : (dat1 (V3 m ρ) c).flushed 5 t =
    ((cfg1.win 5).blk t).view.read (Elt Ideal) (outArr m c) := by
  have ht := points1 t
  show (cfg1.win 5).cut (grid1.coords t) ((dat1 (V3 m ρ) c).after 5 t) = _
  rw [after1_5, outs1]
  refine funext fun (j : S1x256x2048.Idx) => ?_
  obtain ⟨z, r, p, rfl⟩ : ∃ (z : Fin 1) (r : Fin 256) (p : Fin 2048), j = ix3 z r p :=
    ⟨j 0, j 1, j 2, funext fun a => by match a with | ⟨0, _⟩ => rfl | ⟨1, _⟩ => rfl | ⟨2, _⟩ => rfl⟩
  obtain rfl : z = 0 := Subsingleton.elim _ _
  rw [View.read_apply]
  refine (pay1_apply _ _ _ _ _ r p).trans ?_
  rw [block1_0 m ρ c t 0 p ht, block1_1 m ρ c t r p ht, block1_2 m ρ c t r p ht, V3_sim, V3_dif, V3_mix,
    show grid1.coords t 0 = (⟨t.val / 8, by omega⟩ : Fin 8) from Fin.ext (coord1_0 t), lo_word, inv_word]
  refine Eq.trans (b := outArr m c (ix3 ⟨t.val / 8, by omega⟩ r ⟨t.val % 8 * 2048 + p, by omega⟩)) rfl (congrArg (outArr m c) ?_)
  funext a; apply Fin.ext
  have e := index1_5 t a
  match a with
  | ⟨0, _⟩ => show t.val / 8 = win1_5.index t 0 * 1 + 1 * 0; rw [show win1_5.index t 0 = t.val / 8 from e]; omega
  | ⟨1, _⟩ => show r.val = win1_5.index t 1 * 256 + 1 * r.val; rw [show win1_5.index t 1 = 0 from e]; omega
  | ⟨2, _⟩ => show t.val % 8 * 2048 + p.val = win1_5.index t 2 * 2048 + 1 * p.val; rw [show win1_5.index t 2 = t.val % 8 from e]; omega

/-- The second launch leaves the blended array. -/
theorem final1 : (dat1 (V3 m ρ) c).arrAt 5 cfg1.N = outArr m c :=
  (dat1 (V3 m ρ) c).arrAt_eq_of_cover 5 (outArr m c) (fun t _ => flushed1 m ρ c t) fun i => by
    have h0 : (i 0 : Nat) < 8 := (i 0).isLt
    have h1 : (i 1 : Nat) < 256 := (i 1).isLt
    have h2 : (i 2 : Nat) < 16384 := (i 2).isLt
    have ht : 8 * (i 0 : Nat) + (i 2 : Nat) / 2048 < cfg1.N := Nat.lt_of_lt_of_eq (by omega) (show 64 = cfg1.N by decide +kernel)
    refine ⟨⟨8 * (i 0 : Nat) + (i 2 : Nat) / 2048, ht⟩, flush1_5 _, ?_⟩
    show i ∈ ((View.whole main_v14).slice (win1_5.rect ⟨8 * (i 0 : Nat) + (i 2 : Nat) / 2048, ht⟩)).set
    rw [View.set_slice_whole, Rect.mem_set_unit]
    intro a
    have e := index1_5 ⟨8 * (i 0 : Nat) + (i 2 : Nat) / 2048, ht⟩ a
    match a with
    | ⟨0, _⟩ => show win1_5.index ⟨8 * (i 0 : Nat) + (i 2 : Nat) / 2048, ht⟩ 0 * 1 ≤ (i 0 : Nat) ∧ (i 0 : Nat) < win1_5.index ⟨8 * (i 0 : Nat) + (i 2 : Nat) / 2048, ht⟩ 0 * 1 + 1
                rw [show win1_5.index ⟨8 * (i 0 : Nat) + (i 2 : Nat) / 2048, ht⟩ 0 = (8 * (i 0 : Nat) + (i 2 : Nat) / 2048) / 8 from e]; omega
    | ⟨1, _⟩ => show win1_5.index ⟨8 * (i 0 : Nat) + (i 2 : Nat) / 2048, ht⟩ 1 * 256 ≤ (i 1 : Nat) ∧ (i 1 : Nat) < win1_5.index ⟨8 * (i 0 : Nat) + (i 2 : Nat) / 2048, ht⟩ 1 * 256 + 256
                rw [show win1_5.index ⟨8 * (i 0 : Nat) + (i 2 : Nat) / 2048, ht⟩ 1 = 0 from e]; omega
    | ⟨2, _⟩ => show win1_5.index ⟨8 * (i 0 : Nat) + (i 2 : Nat) / 2048, ht⟩ 2 * 2048 ≤ (i 2 : Nat) ∧ (i 2 : Nat) < win1_5.index ⟨8 * (i 0 : Nat) + (i 2 : Nat) / 2048, ht⟩ 2 * 2048 + 2048
                rw [show win1_5.index ⟨8 * (i 0 : Nat) + (i 2 : Nat) / 2048, ht⟩ 2 = (8 * (i 0 : Nat) + (i 2 : Nat) / 2048) % 8 from e]; omega

/-- The program's result. -/
theorem result_eq : W5 m ρ c (Proc.devRef .tc main_v15) =
    shapeCast S8x256x128x128 (outArr m c) shapeCasts_S8x256x16384_S8x256x128x128 := by
  show StableHlo.after hostOps2 (W4 m ρ c) (Proc.devRef .tc main_v15) = _
  after_results
  rw [show W4 m ρ c (Proc.devRef .tc main_v14) = outArr m c from (W4_arr m ρ c 5).trans (final1 m ρ c)]
  rfl

/-- At a pixel. -/
theorem result_apply (b : Fin 8) (o : Fin 256) (i j : Fin 128) :
    W5 m ρ c (Proc.devRef .tc main_v15) (ix4 b o i j) = blended (dataAt m c b) i j o := by
  rw [result_eq]
  have e : shapeCast S8x256x128x128 (outArr m c) shapeCasts_S8x256x16384_S8x256x128x128 (ix4 b o i j) =
      outArr m c (ix3 b o ⟨i.val * 128 + j.val, by omega⟩) := by
    pointwise []
  refine e.trans ?_
  show blended (dataAt m c b) ((i.val * 128 + j.val) / 128) ((i.val * 128 + j.val) % 128) o = _
  congr 1 <;> omega

end Cert.KernelIdeal.Whole

end
-- ==== Proof.Value.Agree.lean ====
module

public import proofs.«01_k».proof.Proof.Value.Host
public import proofs.«01_k».proof.Proof.Value.Second

/-!
The two blends agree where what is blended is real and the similarity map is not constant.
-/

@[expose] public section

noncomputable section

namespace Cert.Blend

open Idealize.ShloMosaic
open Cert.KernelIdeal.Whole (lo hi blended)
open Cert.ReferenceIdeal.Value (scale)

/-- A square is not negative. -/
theorem square_nonneg (x : EReal) : 0 ≤ x * x := by
  induction x with
  | bot => simp
  | coe r => exact_mod_cast mul_self_nonneg r
  | top => simp

/-- A number whose square is finite is real. -/
theorem real_of_sq {x : EReal} (h : x * x ≠ ⊤) : ∃ r : ℝ, x = r := by
  induction x with
  | bot => exact absurd EReal.bot_mul_bot h
  | coe r => exact ⟨r, rfl⟩
  | top => exact absurd EReal.top_mul_top h

/-- A sum of reals is real. -/
theorem real_sum {n : ℕ} {f : Fin n → EReal} (h : ∀ k, ∃ r : ℝ, f k = r) : ∃ r : ℝ, ∑ k, f k = r := by
  refine Finset.sum_induction f (fun x => ∃ r : ℝ, x = r) ?_ ⟨0, rfl⟩ fun k _ => h k
  rintro _ _ ⟨a, rfl⟩ ⟨b, rfl⟩
  exact ⟨a + b, (EReal.coe_add a b).symm⟩

/-- A root of what is not negative: not negative, zero only of zero, infinite of infinity. -/
theorem sqrt_facts {x : EReal} (h : 0 ≤ x) : 0 ≤ Ideal.sqrt x ∧ (Ideal.sqrt x = 0 → x = 0) ∧ (x = ⊤ → Ideal.sqrt x = ⊤) := by
  induction x with
  | bot => exact absurd h (by simp)
  | top => exact ⟨by simp, by simp, by simp⟩
  | coe r =>
    have hr : 0 ≤ r := by exact_mod_cast h
    rw [Ideal.sqrt_coe, if_neg (not_lt.mpr hr)]
    exact ⟨by exact_mod_cast Real.sqrt_nonneg r, fun e => by
      rw [(Real.sqrt_eq_zero hr).mp (by exact_mod_cast e)]; rfl, fun e => absurd e (EReal.coe_ne_top r)⟩

/-- A vector of zero norm is zero. -/
theorem zero_of_norm {x : Fin 256 → EReal} (h : Ideal.sqrt (∑ k, x k * x k) = 0) (k : Fin 256) : x k = 0 := by
  have e := (sqrt_facts (Finset.sum_nonneg fun k _ => square_nonneg (x k))).2.1 h
  have := (Finset.sum_eq_zero_iff_of_nonneg fun k _ => square_nonneg (x k)).mp e k (Finset.mem_univ k)
  exact mul_self_eq_zero.mp this

/-- A vector of finite norm is real. -/
theorem real_of_norm {x : Fin 256 → EReal} (h : Ideal.sqrt (∑ k, x k * x k) ≠ ⊤) (k : Fin 256) : ∃ r : ℝ, x k = r := by
  refine real_of_sq fun e => h ((sqrt_facts (Finset.sum_nonneg fun k _ => square_nonneg (x k))).2.2 (top_le_iff.mp ?_))
  exact e ▸ Finset.single_le_sum (f := fun k => x k * x k) (fun k _ => square_nonneg (x k)) (Finset.mem_univ k)

/-- A cosine is never infinite upwards. -/
theorem sim_ne_top (x y : Fin 256 → EReal) : sim x y ≠ ⊤ := by
  unfold sim
  have hx : 0 ≤ Ideal.sqrt (∑ k, x k * x k) := (sqrt_facts (Finset.sum_nonneg fun k _ => square_nonneg (x k))).1
  have hy : 0 ≤ Ideal.sqrt (∑ k, y k * y k) := (sqrt_facts (Finset.sum_nonneg fun k _ => square_nonneg (y k))).1
  rcases eq_or_ne (Ideal.sqrt (∑ k, x k * x k)) 0 with h0 | h0
  · simp only [zero_of_norm h0, Ideal.div, zero_mul, mul_zero, Finset.sum_const_zero, lt_irrefl, if_false]
    split_ifs <;> simp
  rcases eq_or_ne (Ideal.sqrt (∑ k, y k * y k)) 0 with h1 | h1
  · simp only [zero_of_norm h1, Ideal.div, zero_mul, mul_zero, Finset.sum_const_zero, lt_irrefl, if_false]
    split_ifs <;> simp
  have px := lt_of_le_of_ne hx h0.symm
  have py := lt_of_le_of_ne hy h1.symm
  rcases eq_or_ne (Ideal.sqrt (∑ k, x k * x k)) ⊤ with t0 | t0
  · rw [t0, EReal.top_mul_of_pos py]; simp [Ideal.div]
  rcases eq_or_ne (Ideal.sqrt (∑ k, y k * y k)) ⊤ with t1 | t1
  · rw [t1, EReal.mul_top_of_pos px]; simp [Ideal.div]
  obtain ⟨d, hd⟩ : ∃ r : ℝ, ∑ k, x k * y k = r := real_sum fun k => by
    obtain ⟨a, ha⟩ := real_of_norm t0 k
    obtain ⟨b, hb⟩ := real_of_norm t1 k
    exact ⟨a * b, by rw [ha, hb, EReal.coe_mul]⟩
  have n0 : Ideal.sqrt (∑ k, x k * x k) = ((Ideal.sqrt (∑ k, x k * x k)).toReal : EReal) :=
    (EReal.coe_toReal t0 (ne_bot_of_gt px)).symm
  have n1 : Ideal.sqrt (∑ k, y k * y k) = ((Ideal.sqrt (∑ k, y k * y k)).toReal : EReal) :=
    (EReal.coe_toReal t1 (ne_bot_of_gt py)).symm
  rw [n0] at h0 ⊢
  rw [n1] at h1 ⊢
  rw [hd, ← EReal.coe_mul, Ideal.div_coe (mul_ne_zero (by exact_mod_cast h0) (by exact_mod_cast h1)), ← EReal.coe_mul]
  exact EReal.coe_ne_top _

/-- The greatest similarity is one of them. -/
theorem hi_ne_top (D : Data) : hi D ≠ ⊤ := by
  unfold hi
  obtain ⟨i, hi⟩ := exists_eq_ciSup_of_finite (f := fun i : Fin 128 => ⨆ j : Fin 128, D.S i j)
  obtain ⟨j, hj⟩ := exists_eq_ciSup_of_finite (f := fun j : Fin 128 => D.S i j)
  rw [← hi, ← hj]
  exact sim_ne_top _ _

/-- The two ways to blend. -/
theorem blends (n h : ℝ) (e : EReal) : (h : EReal) + n * (e - h) = n * e + (1 - n) * h := by
  have e1 : (1 - (n : EReal)) * h = ((1 - n) * h : ℝ) := by norm_cast
  rw [e1]
  induction e with
  | coe r => norm_cast; ring
  | top =>
    rw [EReal.top_sub_coe]
    rcases lt_trichotomy n 0 with c | c | c
    · rw [EReal.coe_mul_top_of_neg c, EReal.bot_add, EReal.add_bot]
    · subst c; norm_num
    · rw [EReal.coe_mul_top_of_pos c, EReal.top_add_coe, EReal.coe_add_top]
  | bot =>
    rw [EReal.bot_sub]
    rcases lt_trichotomy n 0 with c | c | c
    · rw [EReal.coe_mul_bot_of_neg c, EReal.top_add_coe, EReal.coe_add_top]
    · subst c; norm_num
    · rw [EReal.coe_mul_bot_of_pos c, EReal.bot_add, EReal.add_bot]

/-- The kernel's blend is the reference's. -/
theorem blended_eq (D : Data) (i j : Fin 128) (o : Fin 256) (hv : lo D < hi D) (hh : ∃ r : ℝ, D.HH i j o = r) :
    blended D i j o = scale D i j * D.EE i j o + (1 - scale D i j) * D.HH i j o := by
  obtain ⟨h, hh⟩ := hh
  obtain ⟨t, ht⟩ : ∃ r : ℝ, hi D = r := ⟨_, (EReal.coe_toReal (hi_ne_top D) (ne_bot_of_gt hv)).symm⟩
  have hl : lo D ≤ D.S i j := (iInf_le _ i).trans (iInf_le _ j)
  have hs : D.S i j ≠ ⊤ := sim_ne_top _ _
  unfold blended scale
  rw [hh, ht]
  rw [ht] at hv
  generalize D.S i j = s at hl hs
  generalize lo D = l at hl hv
  generalize D.EE i j o = e
  induction l with
  | top => exact absurd hv (by simp)
  | bot => simp [Ideal.div, EReal.coe_sub_bot]
  | coe l =>
    induction s with
    | top => exact absurd rfl hs
    | bot => exact absurd hl (by simp)
    | coe s =>
      have hn : t - l ≠ 0 := sub_ne_zero.mpr (ne_of_gt (by exact_mod_cast hv))
      rw [← EReal.coe_sub, ← EReal.coe_sub, Ideal.div_coe hn, Ideal.div_coe hn, one_mul, ← EReal.coe_mul]
      exact blends _ _ _

end Cert.Blend

end
-- ==== Proof.Value.Pre.lean ====
module

public import proofs.«01_k».proof.Proof.Value.Agree
public import proofs.«01_k».proof.Proof.Gen.Pre_varied

/-!
What the precondition says: the second image, `wh` and `bh` are real, and no sample's similarity map is constant.
-/

@[expose] public section

set_option maxRecDepth 16384

noncomputable section

namespace Cert.Blend

open Idealize.ShloMosaic Idealize.ShloMosaic.Pointwise
open Cert.KernelIdeal.Whole (lo hi blended)
open Cert.ReferenceIdeal.Value (rowOf minOf maxOf min_row max_row resultOf resultOf_apply)
open Cert.ReferenceIdeal (S8x256x128x128 S8x1x128x128 S256x256 S256 S8)

attribute [local instance] Cert.Pre_varied.Gen.facts

/-- Image batches are equal where their entries are. -/
theorem images_ext {x y : FVec Ideal S8x256x128x128 .f32} (h : ∀ b o i j, x (ix4 b o i j) = y (ix4 b o i j)) : x = y := by
  funext q
  idx_vars q
  exact h _ _ _ _

/-- A comparison that came out one. -/
theorem lt_of_cmp {x y : EReal} (h : Ideal.cmp .olt x y = 1#1) : x < y := by
  by_contra c
  simp [Ideal.cmp, c] at h

/-- A number whose absolute value is below infinity is real. -/
theorem real_of_abs {x : EReal} (h : Ideal.cmp .olt (max x (-x)) (Ideal.ofBits .f32 0x7F800000#32) = 1#1) : ∃ r : ℝ, x = r := by
  have e : Ideal.ofBits .f32 0x7F800000#32 = ⊤ := by simp [Ideal.ofBits, Ideal.ieee]
  have l := lt_of_cmp h
  rw [e] at l
  induction x with
  | bot => exact absurd l (by simp)
  | coe r => exact ⟨r, rfl⟩
  | top => exact absurd l (by simp)

section
variable (f g : FVec Ideal S8x256x128x128 .f32) (k : FVec Ideal S8x1x128x128 .f32) (we : FVec Ideal S256x256 .f32) (be : FVec Ideal S256 .f32)
  (wf : FVec Ideal S256x256 .f32) (bf : FVec Ideal S256 .f32) (wg : FVec Ideal S256x256 .f32) (bg : FVec Ideal S256 .f32)
  (wh : FVec Ideal S256x256 .f32) (bh : FVec Ideal S256 .f32)

/-- The second image is real. -/
theorem second_real (h : (Cert.Pre_varied.fn (F := Ideal) f g k we be wf bf wg bg wh bh).1 = fun _ => 1#1) (i) :
    ∃ r : ℝ, g i = r := real_of_abs (congrFun h i)

/-- The weights of the image's own convolution are real. -/
theorem wh_real (h : (Cert.Pre_varied.fn (F := Ideal) f g k we be wf bf wg bg wh bh).2.1 = fun _ => 1#1) (i) :
    ∃ r : ℝ, wh i = r := real_of_abs (congrFun h i)

/-- And so is its bias. -/
theorem bh_real (h : (Cert.Pre_varied.fn (F := Ideal) f g k we be wf bf wg bg wh bh).2.2.1 = fun _ => 1#1) (i) :
    ∃ r : ℝ, bh i = r := real_of_abs (congrFun h i)

/-- The precondition's comparison is of the reference's similarity row. -/
theorem compared : (Cert.Pre_varied.fn (F := Ideal) f g k we be wf bf wg bg wh bh).2.2.2 =
    cmpf .olt (minOf (rowOf f g wf wg bf bg)) (maxOf (rowOf f g wf wg bf bg)) := by
  unfold rowOf
  rfl

/-- Every sample's least similarity is below its greatest. -/
theorem lo_lt_hi (h : (Cert.Pre_varied.fn (F := Ideal) f g k we be wf bf wg bg wh bh).2.2.2 = fun _ => 1#1) (b : Fin 8) :
    lo (data f g we be wf bf wg bg wh bh b) < hi (data f g we be wf bf wg bg wh bh b) := by
  rw [← min_row f g we wf wg wh be bf bg bh, ← max_row f g we wf wg wh be bf bg bh]
  have e : cmpf .olt (minOf (rowOf f g wf wg bf bg)) (maxOf (rowOf f g wf wg bf bg)) = fun _ => 1#1 :=
    (compared f g k we be wf bf wg bg wh bh).symm.trans h
  generalize minOf (rowOf f g wf wg bf bg) = x at e ⊢
  generalize maxOf (rowOf f g wf wg bf bg) = y at e ⊢
  exact lt_of_cmp (congrFun e (ix1 b))

/-- Where the precondition holds the kernel's blend is the reference's result. -/
theorem agree (h : (Cert.Pre_varied.fn (F := Ideal) f g k we be wf bf wg bg wh bh).1 = (fun _ => 1#1) ∧
    (Cert.Pre_varied.fn (F := Ideal) f g k we be wf bf wg bg wh bh).2.1 = (fun _ => 1#1) ∧
    (Cert.Pre_varied.fn (F := Ideal) f g k we be wf bf wg bg wh bh).2.2.1 = (fun _ => 1#1) ∧
    (Cert.Pre_varied.fn (F := Ideal) f g k we be wf bf wg bg wh bh).2.2.2 = (fun _ => 1#1)) (b : Fin 8) (o : Fin 256) (i j : Fin 128) :
    resultOf f g we wf wg wh be bf bg bh (ix4 b o i j) = blended (data f g we be wf bf wg bg wh bh b) i j o := by
  rw [resultOf_apply, blended_eq _ _ _ _ (lo_lt_hi f g k we be wf bf wg bg wh bh h.2.2.2 b)]
  obtain ⟨z, hz⟩ := bh_real f g k we be wf bf wg bg wh bh h.2.2.1 (ix1 o)
  obtain ⟨s, hs⟩ : ∃ r : ℝ, ∑ q : Fin 256, wh (ix2 o q) * plane g b q (i + 3) (j + 3) = r := real_sum fun q => by
    obtain ⟨x, hx⟩ := wh_real f g k we be wf bf wg bg wh bh h.2.1 (ix2 o q)
    obtain ⟨y, hy⟩ := second_real f g k we be wf bf wg bg wh bh h.1 (ix4 b q i j)
    exact ⟨x * y, by rw [plane_in g b q i j _ _ rfl rfl, hx, hy, EReal.coe_mul]⟩
  refine ⟨s + z, ?_⟩
  show (∑ q : Fin 256, wh (ix2 o q) * plane g b q (i + 3) (j + 3)) + bh (ix1 o) = _
  rw [hs, hz, EReal.coe_add]
end

end Cert.Blend

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_varied
public import proofs.«01_k».proof.Proof.Gen.ReferenceIdeal.Run
public import proofs.«01_k».proof.Proof.Kernel.Launched
public import proofs.«01_k».proof.Proof.KernelIdeal.Launched
public import proofs.«01_k».proof.Proof.Value.Pre
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.ShloMosaic.Pointwise Idealize.SL.Sem Cert.Kernel

/-- The two named constants are the rounded words of the fractions they are named for. -/
theorem preserves : Cert.preserves_Kernel_KernelIdeal :=
  ⟨IdealRules.named_const.statement Cert.KernelIdeal.κ "inv49" .f32 0x3CA72F05#32 ((1 / 49 : ℝ) : EReal) rfl,
   IdealRules.named_const.statement Cert.KernelIdeal.κ "inv48" .f32 0x3CAAAAAB#32 ((1 / 48 : ℝ) : EReal) rfl⟩

/-- The reference's frame: the host run read at the arguments; it declares no semaphore. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two results are equal where the precondition holds. -/
theorem results {m : (ℓ : Loc Cert.KernelIdeal.nD Cert.KernelIdeal.τ Cert.KernelIdeal.sig) → Buf (Elt Ideal) ℓ} (g : Dev Cert.KernelIdeal.nD → PrngReg)
    (h : Cert.Pre_KernelIdeal_varied (hPre_varied := Cert.Pre_varied.Gen.facts) m) (c : Dev Cert.KernelIdeal.nD) :
    Cert.ReferenceIdeal.Value.resultOf (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg3)) (m ((c.tc : Thread Cert.KernelIdeal.nD Cert.KernelIdeal.τ).loc Cert.KernelIdeal.main_arg5))
      (m ((c.tc : Thread Cert.KernelIdeal.nD Cert.KernelIdeal.τ).loc Cert.KernelIdeal.main_arg7)) (m ((c.tc : Thread Cert.KernelIdeal.nD Cert.KernelIdeal.τ).loc Cert.KernelIdeal.main_arg9))
      (m ((c.tc : Thread Cert.KernelIdeal.nD Cert.KernelIdeal.τ).loc Cert.KernelIdeal.main_arg4)) (m ((c.tc : Thread Cert.KernelIdeal.nD Cert.KernelIdeal.τ).loc Cert.KernelIdeal.main_arg6))
      (m ((c.tc : Thread Cert.KernelIdeal.nD Cert.KernelIdeal.τ).loc Cert.KernelIdeal.main_arg8)) (m ((c.tc : Thread Cert.KernelIdeal.nD Cert.KernelIdeal.τ).loc Cert.KernelIdeal.main_arg10)) =
    Cert.KernelIdeal.Whole.W5 m g c (Proc.devRef .tc Cert.KernelIdeal.main_v15) := by
  refine Cert.Blend.images_ext fun b o i j => ?_
  exact (Cert.Blend.agree _ _ _ _ _ _ _ _ _ _ _ (h c) b o i j).trans (Cert.KernelIdeal.Whole.result_apply m g c b o i j).symm

/-- From agreeing arguments of which the precondition holds, the idealized kernel and reference end with equal results. -/
theorem equal_results : Cert.algebraic_KernelIdeal_ReferenceIdeal_pre_varied (hKernelIdeal := Cert.KernelIdeal.Gen.facts)
    (hReferenceIdeal := Cert.ReferenceIdeal.Gen.facts) (hPre_varied := Cert.Pre_varied.Gen.facts) := by
  intro m g m' g' hm ha
  refine ⟨fun c => Cert.KernelIdeal.Whole.W5 m g c (Proc.devRef .tc Cert.KernelIdeal.main_v15), ?_, ?_⟩
  · exact θ_run_mono (θ_run_and (Cert.KernelIdeal.Whole.run_ends m g) (Cert.KernelIdeal.Whole.frame m g))
      fun r h c => ⟨h.1.1 c _ (Cert.KernelIdeal.Whole.mem_uc Cert.KernelIdeal.main_v15 (by decide)), h.2.1 c⟩
  · refine (θ_run Cert.ReferenceIdeal.defs _ _).mono (fun r h c => ⟨?_, (h c).2⟩) (Cert.ReferenceIdeal.Value.run_result m' g')
    obtain ⟨a0, a1, -, a3, a4, a5, a6, a7, a8, a9, a10⟩ := ha c
    rw [(h c).1, a0, a1, a3, a4, a5, a6, a7, a8, a9, a10]
    exact results g hm c

/-- Everything that is claimed. -/
theorem claim : Cert.Claim := ⟨Cert.Kernel.Gen.facts, Cert.KernelIdeal.Gen.facts, Cert.ReferenceIdeal.Gen.facts, Cert.Pre_varied.Gen.facts,
  fun m ρ _ => Cert.Kernel.Whole.frame m ρ, fun m ρ _ => Cert.KernelIdeal.Whole.frame m ρ,
  fun m ρ _ => Cert.KernelIdeal.Whole.frame m ρ, reference_frame, fun m ρ _ => reference_frame m ρ trivial, preserves, equal_results⟩

end Cert.Proof

end
